-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 1024]⟩ ⟨2, ![2048, 1024]⟩ (Layout.meshBlock [2, 2] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024 : Shape := ⟨1, ![1024]⟩
abbrev S2x1024 : Shape := ⟨2, ![2, 1024]⟩
abbrev S4x2x1024 : Shape := ⟨3, ![4, 2, 1024]⟩
abbrev S512x1024 : Shape := ⟨2, ![512, 1024]⟩
abbrev S2 : Shape := ⟨1, ![2]⟩
abbrev S4 : Shape := ⟨1, ![4]⟩
abbrev S1 : Shape := ⟨1, ![1]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S1x2x1024 : Shape := ⟨3, ![1, 2, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S4x2x1024, .f32⟩
  | .local _ .vmem, ⟨3, _⟩ => ⟨S512x1024, .f32⟩
  | .local _ .vmem, ⟨4, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let c0_i32_3 : BitVec 32 := 0#32
  ![v8.toNat, 0]
def k0_cond1 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c0_i32_6 : BitVec 32 := 0#32
  let v16 : BitVec 1 := Scalar.cmpi .ne v7 c0_i32_6
  let v17 : BitVec 32 := Scalar.extui v16
  let c0_i32_7 : BitVec 32 := 0#32
  let v18 : BitVec 1 := Scalar.cmpi .ne v17 c0_i32_7
  v18

def k0_dev1 : Nat :=
  let c0_i32_62 : BitVec 32 := 0#32
  let c0_i32_59 : BitVec 32 := 0#32
  let c2_i32_61 : BitVec 32 := 2#32
  let v97 : BitVec 32 := Scalar.muli c0_i32_59 c2_i32_61
  let v98 : BitVec 32 := Scalar.addi c0_i32_62 v97
  let c0_i32_60 : BitVec 32 := 0#32
  let c1_i32_63 : BitVec 32 := 1#32
  let v99 : BitVec 32 := Scalar.muli c0_i32_60 c1_i32_63
  let v100 : BitVec 32 := Scalar.addi v98 v99
  v100.toNat
def k0_cond2 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c1_i32_8 : BitVec 32 := 1#32
  let v19 : BitVec 1 := Scalar.cmpi .ne v7 c1_i32_8
  let v20 : BitVec 32 := Scalar.extui v19
  let c0_i32_9 : BitVec 32 := 0#32
  let v21 : BitVec 1 := Scalar.cmpi .ne v20 c0_i32_9
  v21

def k0_dev2 : Nat :=
  let c0_i32_62 : BitVec 32 := 0#32
  let c0_i32_59 : BitVec 32 := 0#32
  let c2_i32_61 : BitVec 32 := 2#32
  let v97 : BitVec 32 := Scalar.muli c0_i32_59 c2_i32_61
  let v98 : BitVec 32 := Scalar.addi c0_i32_62 v97
  let c1_i32_60 : BitVec 32 := 1#32
  let c1_i32_63 : BitVec 32 := 1#32
  let v99 : BitVec 32 := Scalar.muli c1_i32_60 c1_i32_63
  let v100 : BitVec 32 := Scalar.addi v98 v99
  v100.toNat
def k0_cond3 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c2_i32_10 : BitVec 32 := 2#32
  let v22 : BitVec 1 := Scalar.cmpi .ne v7 c2_i32_10
  let v23 : BitVec 32 := Scalar.extui v22
  let c0_i32_11 : BitVec 32 := 0#32
  let v24 : BitVec 1 := Scalar.cmpi .ne v23 c0_i32_11
  v24

def k0_dev3 : Nat :=
  let c0_i32_62 : BitVec 32 := 0#32
  let c1_i32_59 : BitVec 32 := 1#32
  let c2_i32_61 : BitVec 32 := 2#32
  let v97 : BitVec 32 := Scalar.muli c1_i32_59 c2_i32_61
  let v98 : BitVec 32 := Scalar.addi c0_i32_62 v97
  let c0_i32_60 : BitVec 32 := 0#32
  let c1_i32_63 : BitVec 32 := 1#32
  let v99 : BitVec 32 := Scalar.muli c0_i32_60 c1_i32_63
  let v100 : BitVec 32 := Scalar.addi v98 v99
  v100.toNat
def k0_cond4 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c3_i32 : BitVec 32 := 3#32
  let v25 : BitVec 1 := Scalar.cmpi .ne v7 c3_i32
  let v26 : BitVec 32 := Scalar.extui v25
  let c0_i32_12 : BitVec 32 := 0#32
  let v27 : BitVec 1 := Scalar.cmpi .ne v26 c0_i32_12
  v27

def k0_dev4 : Nat :=
  let c0_i32_62 : BitVec 32 := 0#32
  let c1_i32_59 : BitVec 32 := 1#32
  let c2_i32_61 : BitVec 32 := 2#32
  let v97 : BitVec 32 := Scalar.muli c1_i32_59 c2_i32_61
  let v98 : BitVec 32 := Scalar.addi c0_i32_62 v97
  let c1_i32_60 : BitVec 32 := 1#32
  let c1_i32_63 : BitVec 32 := 1#32
  let v99 : BitVec 32 := Scalar.muli c1_i32_60 c1_i32_63
  let v100 : BitVec 32 := Scalar.addi v98 v99
  v100.toNat
def k0_cond5 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c0_i32_30 : BitVec 32 := 0#32
  let v61 : BitVec 1 := Scalar.cmpi .eq v7 c0_i32_30
  let v62 : BitVec 32 := Scalar.extui v61
  let c0_i32_31 : BitVec 32 := 0#32
  let v63 : BitVec 1 := Scalar.cmpi .ne v62 c0_i32_31
  v63

def k0_dev5 : Nat :=
  let c0_i32_69 : BitVec 32 := 0#32
  let c0_i32_66 : BitVec 32 := 0#32
  let c2_i32_68 : BitVec 32 := 2#32
  let v101 : BitVec 32 := Scalar.muli c0_i32_66 c2_i32_68
  let v102 : BitVec 32 := Scalar.addi c0_i32_69 v101
  let c1_i32_67 : BitVec 32 := 1#32
  let c1_i32_70 : BitVec 32 := 1#32
  let v103 : BitVec 32 := Scalar.muli c1_i32_67 c1_i32_70
  let v104 : BitVec 32 := Scalar.addi v102 v103
  v104.toNat
def k0_dev6 : Nat :=
  let c0_i32_79 : BitVec 32 := 0#32
  let c1_i32_76 : BitVec 32 := 1#32
  let c2_i32_78 : BitVec 32 := 2#32
  let v111 : BitVec 32 := Scalar.muli c1_i32_76 c2_i32_78
  let v112 : BitVec 32 := Scalar.addi c0_i32_79 v111
  let c0_i32_77 : BitVec 32 := 0#32
  let c1_i32_80 : BitVec 32 := 1#32
  let v113 : BitVec 32 := Scalar.muli c0_i32_77 c1_i32_80
  let v114 : BitVec 32 := Scalar.addi v112 v113
  v114.toNat
def k0_dev7 : Nat :=
  let c0_i32_89 : BitVec 32 := 0#32
  let c1_i32_86 : BitVec 32 := 1#32
  let c2_i32_88 : BitVec 32 := 2#32
  let v121 : BitVec 32 := Scalar.muli c1_i32_86 c2_i32_88
  let v122 : BitVec 32 := Scalar.addi c0_i32_89 v121
  let c1_i32_87 : BitVec 32 := 1#32
  let c1_i32_90 : BitVec 32 := 1#32
  let v123 : BitVec 32 := Scalar.muli c1_i32_87 c1_i32_90
  let v124 : BitVec 32 := Scalar.addi v122 v123
  v124.toNat
def k0_cond6 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c1_i32_32 : BitVec 32 := 1#32
  let v64 : BitVec 1 := Scalar.cmpi .eq v7 c1_i32_32
  let v65 : BitVec 32 := Scalar.extui v64
  let c0_i32_33 : BitVec 32 := 0#32
  let v66 : BitVec 1 := Scalar.cmpi .ne v65 c0_i32_33
  v66

def k0_dev8 : Nat :=
  let c0_i32_69 : BitVec 32 := 0#32
  let c0_i32_66 : BitVec 32 := 0#32
  let c2_i32_68 : BitVec 32 := 2#32
  let v101 : BitVec 32 := Scalar.muli c0_i32_66 c2_i32_68
  let v102 : BitVec 32 := Scalar.addi c0_i32_69 v101
  let c0_i32_67 : BitVec 32 := 0#32
  let c1_i32_70 : BitVec 32 := 1#32
  let v103 : BitVec 32 := Scalar.muli c0_i32_67 c1_i32_70
  let v104 : BitVec 32 := Scalar.addi v102 v103
  v104.toNat
def k0_dev9 : Nat :=
  let c0_i32_79 : BitVec 32 := 0#32
  let c1_i32_76 : BitVec 32 := 1#32
  let c2_i32_78 : BitVec 32 := 2#32
  let v111 : BitVec 32 := Scalar.muli c1_i32_76 c2_i32_78
  let v112 : BitVec 32 := Scalar.addi c0_i32_79 v111
  let c0_i32_77 : BitVec 32 := 0#32
  let c1_i32_80 : BitVec 32 := 1#32
  let v113 : BitVec 32 := Scalar.muli c0_i32_77 c1_i32_80
  let v114 : BitVec 32 := Scalar.addi v112 v113
  v114.toNat
def k0_dev10 : Nat :=
  let c0_i32_89 : BitVec 32 := 0#32
  let c1_i32_86 : BitVec 32 := 1#32
  let c2_i32_88 : BitVec 32 := 2#32
  let v121 : BitVec 32 := Scalar.muli c1_i32_86 c2_i32_88
  let v122 : BitVec 32 := Scalar.addi c0_i32_89 v121
  let c1_i32_87 : BitVec 32 := 1#32
  let c1_i32_90 : BitVec 32 := 1#32
  let v123 : BitVec 32 := Scalar.muli c1_i32_87 c1_i32_90
  let v124 : BitVec 32 := Scalar.addi v122 v123
  v124.toNat
def k0_cond7 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c2_i32_34 : BitVec 32 := 2#32
  let v67 : BitVec 1 := Scalar.cmpi .eq v7 c2_i32_34
  let v68 : BitVec 32 := Scalar.extui v67
  let c0_i32_35 : BitVec 32 := 0#32
  let v69 : BitVec 1 := Scalar.cmpi .ne v68 c0_i32_35
  v69

def k0_dev11 : Nat :=
  let c0_i32_69 : BitVec 32 := 0#32
  let c0_i32_66 : BitVec 32 := 0#32
  let c2_i32_68 : BitVec 32 := 2#32
  let v101 : BitVec 32 := Scalar.muli c0_i32_66 c2_i32_68
  let v102 : BitVec 32 := Scalar.addi c0_i32_69 v101
  let c0_i32_67 : BitVec 32 := 0#32
  let c1_i32_70 : BitVec 32 := 1#32
  let v103 : BitVec 32 := Scalar.muli c0_i32_67 c1_i32_70
  let v104 : BitVec 32 := Scalar.addi v102 v103
  v104.toNat
def k0_dev12 : Nat :=
  let c0_i32_79 : BitVec 32 := 0#32
  let c0_i32_76 : BitVec 32 := 0#32
  let c2_i32_78 : BitVec 32 := 2#32
  let v111 : BitVec 32 := Scalar.muli c0_i32_76 c2_i32_78
  let v112 : BitVec 32 := Scalar.addi c0_i32_79 v111
  let c1_i32_77 : BitVec 32 := 1#32
  let c1_i32_80 : BitVec 32 := 1#32
  let v113 : BitVec 32 := Scalar.muli c1_i32_77 c1_i32_80
  let v114 : BitVec 32 := Scalar.addi v112 v113
  v114.toNat
def k0_dev13 : Nat :=
  let c0_i32_89 : BitVec 32 := 0#32
  let c1_i32_86 : BitVec 32 := 1#32
  let c2_i32_88 : BitVec 32 := 2#32
  let v121 : BitVec 32 := Scalar.muli c1_i32_86 c2_i32_88
  let v122 : BitVec 32 := Scalar.addi c0_i32_89 v121
  let c1_i32_87 : BitVec 32 := 1#32
  let c1_i32_90 : BitVec 32 := 1#32
  let v123 : BitVec 32 := Scalar.muli c1_i32_87 c1_i32_90
  let v124 : BitVec 32 := Scalar.addi v122 v123
  v124.toNat
def k0_cond8 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c3_i32_36 : BitVec 32 := 3#32
  let v70 : BitVec 1 := Scalar.cmpi .eq v7 c3_i32_36
  let v71 : BitVec 32 := Scalar.extui v70
  let c0_i32_37 : BitVec 32 := 0#32
  let v72 : BitVec 1 := Scalar.cmpi .ne v71 c0_i32_37
  v72

def k0_dev14 : Nat :=
  let c0_i32_69 : BitVec 32 := 0#32
  let c0_i32_66 : BitVec 32 := 0#32
  let c2_i32_68 : BitVec 32 := 2#32
  let v101 : BitVec 32 := Scalar.muli c0_i32_66 c2_i32_68
  let v102 : BitVec 32 := Scalar.addi c0_i32_69 v101
  let c0_i32_67 : BitVec 32 := 0#32
  let c1_i32_70 : BitVec 32 := 1#32
  let v103 : BitVec 32 := Scalar.muli c0_i32_67 c1_i32_70
  let v104 : BitVec 32 := Scalar.addi v102 v103
  v104.toNat
def k0_dev15 : Nat :=
  let c0_i32_79 : BitVec 32 := 0#32
  let c0_i32_76 : BitVec 32 := 0#32
  let c2_i32_78 : BitVec 32 := 2#32
  let v111 : BitVec 32 := Scalar.muli c0_i32_76 c2_i32_78
  let v112 : BitVec 32 := Scalar.addi c0_i32_79 v111
  let c1_i32_77 : BitVec 32 := 1#32
  let c1_i32_80 : BitVec 32 := 1#32
  let v113 : BitVec 32 := Scalar.muli c1_i32_77 c1_i32_80
  let v114 : BitVec 32 := Scalar.addi v112 v113
  v114.toNat
def k0_dev16 : Nat :=
  let c0_i32_89 : BitVec 32 := 0#32
  let c1_i32_86 : BitVec 32 := 1#32
  let c2_i32_88 : BitVec 32 := 2#32
  let v121 : BitVec 32 := Scalar.muli c1_i32_86 c2_i32_88
  let v122 : BitVec 32 := Scalar.addi c0_i32_89 v121
  let c0_i32_87 : BitVec 32 := 0#32
  let c1_i32_90 : BitVec 32 := 1#32
  let v123 : BitVec 32 := Scalar.muli c0_i32_87 c1_i32_90
  let v124 : BitVec 32 := Scalar.addi v122 v123
  v124.toNat
abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2x1024 : Shape := ⟨2, ![2, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .i32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S2x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Line.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

/-! The kernel body as one straight line of operations, the same text on every device. -/

namespace Cert.KernelIdeal.Red

open Idealize.ShloMosaic Idealize.ShloMosaic.TcCoe
open Idealize.SL Idealize.SL.Sem
open Cert.KernelIdeal Cert.KernelIdeal.Gen

variable {F : FTy → Type} [FloatOps F]

/-! ## Names for the buffers, the semaphores and the other devices -/

/-- The result's staging buffer, the own partial sums, the gathered partial sums, and the two blocks of rows. -/
abbrev oM : Memref sig .tc .vmem S2x1024 .f32 := Memref.whole cc0_stg0_0
abbrev pM : Memref sig .tc .vmem S2x1024 .f32 := Memref.whole cc0_scratch0
abbrev gM : Memref sig .tc .vmem S4x2x1024 .f32 := Memref.whole cc0_scratch1
abbrev xM : Memref sig .tc .vmem S512x1024 .f32 := Memref.whole cc0_scratch2
abbrev yM : Memref sig .tc .vmem S512x1024 .f32 := Memref.whole cc0_scratch3

/-- The 512 rows of each input that device `c` copies in. -/
abbrev xRows (c : Dev nD) : Memref sig .tc .hbm S512x1024 .f32 :=
  (Memref.whole main_arg0 : Memref sig .tc .hbm S1024x1024 .f32).slice
    (Rect.unit (s := S1024x1024) (k0_off1 c) S512x1024.size (k0_off1_inb c)) (fun _ => rfl)
abbrev yRows (c : Dev nD) : Memref sig .tc .hbm S512x1024 .f32 :=
  (Memref.whole main_arg1 : Memref sig .tc .hbm S1024x1024 .f32).slice
    (Rect.unit (s := S1024x1024) (k0_off1 c) S512x1024.size (k0_off1_inb c)) (fun _ => rfl)

/-- The place of device `j`'s partial sums in the gathered buffer is within the buffer. -/
theorem inb_slot (j : Fin 4) : ∀ a, (![j.val, 0, 0] : Fin 3 → Nat) a + S1x2x1024.size a ≤ S4x2x1024.size a := by
  revert j; decide

/-- The place of device `j`'s partial sums: as a rectangle and as a view. -/
abbrev slotR (j : Fin 4) : Rect S4x2x1024 := Rect.unit (s := S4x2x1024) ![j.val, 0, 0] S1x2x1024.size (inb_slot j)
abbrev slotM (j : Fin 4) : Memref sig .tc .vmem S2x1024 .f32 :=
  (gM.slice (slotR j) (fun _ => rfl)).squeeze S2x1024 squeezes_S1x2x1024_S2x1024

/-- The whole of a buffer of two rows, and each of its rows. -/
abbrev fullR : Rect S2x1024 := Rect.unit (s := S2x1024) ![0, 0] S2x1024.size inb_S2x1024_S2x1024_0_0
abbrev row0R : Rect S2x1024 := Rect.unit (s := S2x1024) ![0, 0] S1x1024.size inb_S2x1024_S1x1024_0_0
abbrev row1R : Rect S2x1024 := Rect.unit (s := S2x1024) ![1, 0] S1x1024.size inb_S2x1024_S1x1024_1_0
abbrev blkR : Rect S512x1024 := Rect.unit (s := S512x1024) ![0, 0] S512x1024.size inb_S512x1024_S512x1024_0_0

/-- The barrier semaphore, the copies' two, and the send and receive semaphores. -/
abbrev barS : Sem sig := (SemArray.scalar (sig.barrier 0 rfl) : Sems sig S_).sem
abbrev cpS (i : Fin 2) : DmaSem sig := (⟨1 + i.val, by omega⟩ : Fin 11)
abbrev sndS (j : Fin 4) : DmaSem sig := (⟨3 + j.val, by omega⟩ : Fin 11)
abbrev rcvS (j : Fin 4) : DmaSem sig := (⟨7 + j.val, by omega⟩ : Fin 11)

/-- The `i`-th of the other devices, in increasing order. -/
abbrev oth (c : Dev nD) (i : Fin 3) : Dev nD := Fin.succAbove (n := 3) c i

/-! ## The straight line -/

abbrev Code (F : FTy → Type) [FloatOps F] := Prog (TpuEff nD τ sig (Elt F) Λ₀ .tc) PUnit

/-- The last piece: the four partial sums are read, added and stored. -/
abbrev lineOut : Code F :=
  .op (.load gM (slotR 0).toLoadRect (View.loadsAt_vmem h_S1x2x1024)) fun v0 =>
  .op (.load gM (slotR 1).toLoadRect (View.loadsAt_vmem h_S1x2x1024)) fun v1 =>
  .op (.load gM (slotR 2).toLoadRect (View.loadsAt_vmem h_S1x2x1024)) fun v2 =>
  .op (.load gM (slotR 3).toLoadRect (View.loadsAt_vmem h_S1x2x1024)) fun v3 =>
  .op (.load oM fullR.toLoadRect (View.loadsAt_vmem h_S2x1024)) fun _ =>
  .op (.store oM fullR (k0_pay1 (k0_pay8 v0 v1) (k0_pay9 v2) v3) Finset.univ
    (View.stores_vmem_bits_univ h_S2x1024 rfl) (.inl rfl)) .ret

/-- The wait for the partial sums of device `j` to have landed. -/
abbrev waitRecv (j : Fin 4) (k : PUnit → Code F) : Code F :=
  .op (.waitDma2 (rcvS j) pM (slotM j) (Memref.isWhole_whole _).wordExact ((View.wordExact_bits rfl).reshape _ _)) k

/-- The wait for the own partial sums to have been read for device `j`. -/
abbrev waitSend (c j : Fin 4) (k : PUnit → Code F) : Code F :=
  .op (.waitDma2 (sndS j) (slotM c) pM ((View.wordExact_bits rfl).reshape _ _) (Memref.isWhole_whole _).wordExact) k

/-- The transfer of device `c`'s partial sums into its place on device `j`. -/
abbrev sendTo (c j : Dev nD) (k : PUnit → Code F) : Code F :=
  .op (.enqueueDma pM (.remote (Dev.tc j) (slotM c) (.dma (sndS j))) (.dma (rcvS c))
    (Memref.isWhole_whole _).wordExact ((View.wordExact_bits rfl).reshape _ _) ⟨⟨rfl, Or.inl rfl⟩, trivial⟩) k

/-- From the waits for the other devices' partial sums on. -/
abbrev lineRecv (c : Dev nD) : Code F :=
  waitRecv (oth c 0) fun _ => waitRecv (oth c 1) fun _ => waitRecv (oth c 2) fun _ => lineOut

/-- From the wait at the barrier on: the own partial sums are put in place and sent. -/
abbrev lineSend (c : Dev nD) : Code F :=
  .op (.semWait barS ((3 : ℕ) : ℤ)) fun _ =>
  .op (.load pM fullR.toLoadRect (View.loadsAt_vmem h_S2x1024)) fun v =>
  .op (.load gM (slotR c).toLoadRect (View.loadsAt_vmem h_S1x2x1024)) fun _ =>
  .op (.store gM (slotR c) (k0_pay2 v) Finset.univ (View.stores_vmem_bits_univ h_S1x2x1024 rfl) (.inl rfl)) fun _ =>
  sendTo c (oth c 0) fun _ => sendTo c (oth c 1) fun _ => sendTo c (oth c 2) fun _ =>
  waitSend c (oth c 0) fun _ => waitSend c (oth c 1) fun _ => waitSend c (oth c 2) fun _ => lineRecv c

/-- The partial sums of the copied rows are computed and stored. -/
abbrev lineSums (c : Dev nD) : Code F :=
  .op (.load xM blkR.toLoadRect (View.loadsAt_vmem h_S512x1024)) fun v34 =>
  .op (.load yM blkR.toLoadRect (View.loadsAt_vmem h_S512x1024)) fun v35 =>
  .op (.load pM row0R.toLoadRect (View.loadsAt_vmem h_S1x1024)) fun _ =>
  .op (.store pM row0R (k0_pay6 v34 v35) Finset.univ (View.stores_vmem_bits_univ h_S1x1024 rfl) (.inl rfl)) fun _ =>
  .op (.load pM row1R.toLoadRect (View.loadsAt_vmem h_S1x1024)) fun _ =>
  .op (.store pM row1R (k0_pay7 v35) Finset.univ (View.stores_vmem_bits_univ h_S1x1024 rfl) (.inl rfl)) fun _ =>
  lineSend c

/-- The whole line, from after the device's number has been read. -/
def line (c : Dev nD) : Code F :=
  .op (.enqueueDma (xRows c) (.here xM) (.dma (cpS 0)) (View.wordExact_bits rfl) (Memref.isWhole_whole _).wordExact
    ⟨Or.inl rfl, trivial⟩) fun _ =>
  .op (.enqueueDma (yRows c) (.here yM) (.dma (cpS 1)) (View.wordExact_bits rfl) (Memref.isWhole_whole _).wordExact
    ⟨Or.inl rfl, trivial⟩) fun _ =>
  .op (.semSignal (oth c 0 : Thread nD τ) barS ((1 : ℕ) : ℤ)) fun _ =>
  .op (.semSignal (oth c 1 : Thread nD τ) barS ((1 : ℕ) : ℤ)) fun _ =>
  .op (.semSignal (oth c 2 : Thread nD τ) barS ((1 : ℕ) : ℤ)) fun _ =>
  .op (.waitDma2 (cpS 0) (xRows c) xM (View.wordExact_bits rfl) (Memref.isWhole_whole _).wordExact) fun _ =>
  .op (.waitDma2 (cpS 1) (yRows c) yM (View.wordExact_bits rfl) (Memref.isWhole_whole _).wordExact) fun _ =>
  lineSums c

/-- The kernel body on the buffers and semaphores it is called with. -/
abbrev body : Code F :=
  cc0_body (Memref.whole main_arg0) (Memref.isWhole_whole _) (Memref.whole main_arg1) (Memref.isWhole_whole _)
    (Memref.whole main_arg2) (Memref.isWhole_whole _) oM (Memref.isWhole_whole _) pM (Memref.isWhole_whole _)
    gM (Memref.isWhole_whole _) xM (Memref.isWhole_whole _) yM (Memref.isWhole_whole _)
    cc0_scratch4 cc0_scratch5 cc0_scratch6

set_option maxRecDepth 65536 in
set_option maxHeartbeats 4000000 in
/-- The body reads the device's number and runs that device's line. -/
theorem body_eq : body (F := F) = .op .deviceId fun c => line c := by
  have h : ∀ f : Dev nD → Code F, (∀ c, f c = line c) → Prog.op .deviceId f = .op .deviceId fun c => line c :=
    fun f hf => congrArg _ (funext hf)
  refine h _ fun c => ?_
  fin_cases c
  · rfl
  · rfl
  · rfl
  · rfl

end Cert.KernelIdeal.Red
-- ==== Proof.Contents.lean ====
module

public import proofs.«01_k».proof.Proof.Line
public import Idealize.ShloMosaic.Lib.Pipeline.Value

@[expose] public section

noncomputable section

/-! What the buffers hold: the rows a device copies in, its partial sums, the gathered partial sums and the result. -/

namespace Cert.KernelIdeal.Red

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The rows of the first and of the second input that device `c` copies in. -/
def xAt (c : Dev nD) : Vec F S512x1024 .f32 := (xRows c).view.read (Elt F) (m ((c : Thread nD τ).loc main_arg0))
def yAt (c : Dev nD) : Vec F S512x1024 .f32 := (yRows c).view.read (Elt F) (m ((c : Thread nD τ).loc main_arg1))

/-- The one index in a single row at column `l`. -/
def rowIdx (l : Fin 1024) : S1x1024.Idx := fun a => match a with | ⟨0, _⟩ => (0 : Fin 1) | ⟨1, _⟩ => l

/-- Two rows stacked. -/
def stack (u v : Vec F S1x1024 .f32) : Vec F S2x1024 .f32 :=
  fun i => if (i (0 : Fin 2)).val = 0 then u (rowIdx (i (1 : Fin 2))) else v (rowIdx (i (1 : Fin 2)))

/-- Device `c`'s partial sums. -/
def partAt (c : Dev nD) : Vec F S2x1024 .f32 := stack (k0_pay6 (xAt m c) (yAt m c)) (k0_pay7 (yAt m c))

/-- All devices' partial sums, gathered: the same on every device. -/
def commAll : Vec F S4x2x1024 .f32 := fun i => partAt m (i (0 : Fin 3)) (fun a => i a.succ)

/-- One device's place in the gathered buffer, read. -/
def slotVal (j : Fin 4) : Vec F S1x2x1024 .f32 := gM.view.readAt (Elt F) (slotR j).toLoadRect (commAll m)

/-- The result, the same on every device. -/
def outAll : Vec F S2x1024 .f32 :=
  k0_pay1 (k0_pay8 (slotVal m 0) (slotVal m 1)) (k0_pay9 (slotVal m 2)) (slotVal m 3)

/-! ## Whole buffers -/

theorem hz : (![0, 0] : Fin 2 → Nat) = fun _ => 0 := funext fun a => by fin_cases a <;> rfl

omit [FloatOps F] in
theorem read_p (f : Vec F S2x1024 .f32) : pM.view.readAt (Elt F) fullR.toLoadRect f = f :=
  Memref.readAt_unit_zero (Elt F) cc0_scratch0 hz _ f
omit [FloatOps F] in
theorem read_x (f : Vec F S512x1024 .f32) : xM.view.readAt (Elt F) blkR.toLoadRect f = f :=
  Memref.readAt_unit_zero (Elt F) cc0_scratch2 hz _ f
omit [FloatOps F] in
theorem read_y (f : Vec F S512x1024 .f32) : yM.view.readAt (Elt F) blkR.toLoadRect f = f :=
  Memref.readAt_unit_zero (Elt F) cc0_scratch3 hz _ f
omit [FloatOps F] in
theorem write_o (f w : Vec F S2x1024 .f32) : (oM.access fullR).write (Elt F) f w Finset.univ = w :=
  Memref.write_access_unit_zero_univ (Elt F) cc0_stg0_0 hz _ f w

/-! ## The two rows of the partial sums -/

/-- The two rows' rectangles by their first coordinate. -/
theorem row0_emb (l : Fin 1024) (i : S2x1024.Idx) (h0 : i (0 : Fin 2) = (0 : Fin 2)) (h1 : i (1 : Fin 2) = l) :
    (pM.access row0R).emb (rowIdx l) = i := by
  subst h1
  funext a
  fin_cases a
  · exact h0.symm
  · exact Fin.ext (show 0 + 1 * (i (1 : Fin 2)).val = (i (1 : Fin 2)).val by omega)
theorem row1_emb (l : Fin 1024) (i : S2x1024.Idx) (h0 : i (0 : Fin 2) = (1 : Fin 2)) (h1 : i (1 : Fin 2) = l) :
    (pM.access row1R).emb (rowIdx l) = i := by
  subst h1
  funext a
  fin_cases a
  · exact h0.symm
  · exact Fin.ext (show 0 + 1 * (i (1 : Fin 2)).val = (i (1 : Fin 2)).val by omega)

omit [FloatOps F] in
/-- Storing both rows leaves the two rows stacked, whatever was there before. -/
theorem write_rows (f : Vec F S2x1024 .f32) (u v : Vec F S1x1024 .f32) :
    (pM.access row1R).write (Elt F) ((pM.access row0R).write (Elt F) f u Finset.univ) v Finset.univ = stack u v := by
  funext i
  unfold stack
  by_cases h : (i (0 : Fin 2)).val = 0
  · rw [if_pos h, View.write_of_not_mem]
    · conv_lhs => rw [← row0_emb _ i (Fin.ext h) rfl]
      exact View.write_emb_of_mem _ _ (Finset.mem_univ _)
    · intro hm
      obtain ⟨x, -, hx⟩ := Finset.mem_map.mp hm
      have := congrArg (fun q : S2x1024.Idx => (q (0 : Fin 2)).val) hx
      exact absurd ((show 1 + 1 * (x (0 : Fin 2)).val = (i (0 : Fin 2)).val from this).trans h) (by omega)
  · have h' : i (0 : Fin 2) = (1 : Fin 2) :=
      Fin.ext (show (i (0 : Fin 2)).val = 1 by have : (i (0 : Fin 2)).val < 2 := (i (0 : Fin 2)).isLt; omega)
    rw [if_neg h]
    conv_lhs => rw [← row1_emb _ i h' rfl]
    exact View.write_emb_of_mem _ _ (Finset.mem_univ _)

/-! ## The places in the gathered buffer -/

/-- The index of the gathered buffer for device `j` and an index of its partial sums. -/
def inSlot (j : Fin 4) (x : S2x1024.Idx) : S4x2x1024.Idx := Fin.cons (α := fun a => Fin (S4x2x1024.size a)) j x
/-- The same index inside one place. -/
def one (x : S2x1024.Idx) : S1x2x1024.Idx := Fin.cons (α := fun a => Fin (S1x2x1024.size a)) (0 : Fin 1) x

theorem commAll_inSlot (j : Fin 4) (x : S2x1024.Idx) : commAll m (inSlot j x) = partAt m j x := rfl

theorem slotR_emb (j : Fin 4) (x : S2x1024.Idx) : (slotR j).emb (one x) = inSlot j x := by
  funext a
  refine Fin.cases ?_ (fun b => ?_) a
  · exact Fin.ext (show j.val + 1 * 0 = j.val by omega)
  · refine Fin.ext ?_
    fin_cases b
    · exact (show 0 + 1 * (x (0 : Fin 2)).val = (x (0 : Fin 2)).val by omega)
    · exact (show 0 + 1 * (x (1 : Fin 2)).val = (x (1 : Fin 2)).val by omega)

theorem slotM_emb (j : Fin 4) (x : S2x1024.Idx) : (slotM j).view.emb x = inSlot j x := by
  have h := Shape.reshapeEquiv_cons_one (d := ![2, 1024]) (Shape.Squeezes.numel_eq squeezes_S1x2x1024_S2x1024) x
  show (slotR j).emb (Shape.reshapeEquiv _ x) = _
  refine (congrArg (slotR j).emb h).trans (slotR_emb j x)

/-- A place in the gathered buffer holds the indices of its first coordinate. -/
theorem mem_slot (j : Fin 4) (i : S4x2x1024.Idx) : i ∈ (slotM j).view.set ↔ i (0 : Fin 3) = j := by
  constructor
  · intro h
    obtain ⟨x, -, hx⟩ := Finset.mem_map.mp h
    rw [← hx, slotM_emb]; rfl
  · intro h
    have : i = (slotM j).view.emb (fun a => i a.succ) := by
      refine Eq.trans ?_ (slotM_emb j _).symm
      rw [← h]; exact (Fin.cons_self_tail (α := fun a => Fin (S4x2x1024.size a)) i).symm
    rw [this]; exact View.emb_mem_set _ _

theorem slot_set (j : Fin 4) : (slotM j).view.set = (gM.access (slotR j)).set :=
  View.set_reshape (gM.access (slotR j)) _

/-- A device's partial sums landed in its place on another device are what the gathered buffer holds there. -/
theorem landed (j : Fin 4) (f : Vec F S4x2x1024 .f32) : ∀ i ∈ (slotM j).view.set,
    (slotM j).view.write (Elt F) f (pM.view.read (Elt F) (partAt m j)) Finset.univ i = commAll m i := by
  intro i hi
  obtain ⟨x, -, rfl⟩ := Finset.mem_map.mp hi
  refine (View.write_emb_of_mem _ _ (Finset.mem_univ _)).trans ?_
  rw [slotM_emb]
  rfl

/-- A device's own partial sums stored in its place are what the gathered buffer holds there. -/
theorem stored (j : Fin 4) (f : Vec F S4x2x1024 .f32) : ∀ i ∈ (slotM j).view.set,
    (gM.access (slotR j)).write (Elt F) f (k0_pay2 (partAt m j)) Finset.univ i = commAll m i := by
  intro i hi
  obtain ⟨x, -, rfl⟩ := Finset.mem_map.mp hi
  rw [slotM_emb, ← slotR_emb]
  refine (View.write_emb_of_mem (v := gM.access (slotR j)) _ _ (Finset.mem_univ (one x))).trans ?_
  rw [slotR_emb, commAll_inSlot]
  show shapeCast S1x2x1024 (partAt m j) _ (one x) = _
  exact (shapeCast_addUnit_apply ![2, 1024] (partAt m j) _ (one x)).trans rfl

/-- One place read at an index is the device's partial sums there. -/
theorem slotVal_one (j : Fin 4) (x : S2x1024.Idx) : slotVal m j (one x) = partAt m j x :=
  (congrArg (commAll m) (slotR_emb j x)).trans rfl

end Cert.KernelIdeal.Red
-- ==== Proof.Protocol.lean ====
module

public import proofs.«01_k».proof.Proof.Contents
public import Idealize.ShloMosaic.Lib.Pipeline.Launch
public import Idealize.ShloMosaic.Lib.Pipeline.Kit
public import Idealize.ShloMosaic.Lib.Transfers
public import Idealize.ShloMosaic.Lib.Tactic

@[expose] public section

noncomputable section

/-! The protocol of the four devices: which cells they signal, what each signal hands over, what each device owes. -/

namespace Cert.KernelIdeal.Red

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]

/-! ## The ghost algebra -/

/-- The devices' rounds, with duties named by a device, beside the counters of the local copies; -/
abbrev UB : Type := URounds (GSem nD τ sig) (Fin 4)
abbrev UC : Type := UB × Counters
/-- and all of it beside the pipeline's. -/
abbrev UU : Type := UR sig nD τ × UC

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB UC).trans embR
abbrev EC : UEmb Counters (MT nD τ sig Unit (Elt F) ℕ UU ℕ) := countersEmb

variable (m : (ℓ : Loc nD τ sig) → Buf (Elt F) ℓ)

/-! ## Cells -/

abbrev barCell (c : Dev nD) : GSem nD τ sig := ((c : Thread nD τ), .reg barS)
abbrev sndCell (c : Dev nD) (j : Fin 4) : GSem nD τ sig := ((c : Thread nD τ), .dma (sndS j))
abbrev rcvCell (c : Dev nD) (j : Fin 4) : GSem nD τ sig := ((c : Thread nD τ), .dma (rcvS j))
abbrev cpCell (c : Dev nD) (i : Fin 2) : GSem nD τ sig := ((c : Thread nD τ), .dma (cpS i))

/-- What a semaphore is used for. -/
inductive Role where
  | bar
  | snd (j : Fin 4)
  | rcv (j : Fin 4)
  | copy

/-- The use of each semaphore. -/
def role : SemLoc sig → Role
  | .reg _ => .bar
  | .dma q =>
    match (show Fin 11 from q) with
    | 3 => .snd 0 | 4 => .snd 1 | 5 => .snd 2 | 6 => .snd 3
    | 7 => .rcv 0 | 8 => .rcv 1 | 9 => .rcv 2 | 10 => .rcv 3
    | _ => .copy

theorem role_snd (j : Fin 4) : role (.dma (sndS j)) = .snd j := by fin_cases j <;> rfl
theorem role_rcv (j : Fin 4) : role (.dma (rcvS j)) = .rcv j := by fin_cases j <;> rfl
theorem role_bar : role (.reg barS) = .bar := rfl

/-- The units a transfer of the partial sums is worth. -/
abbrev N : ℕ := pM.view.dmaCredit
theorem N_pos : 0 < N := View.dmaCredit_pos _ (by decide)

/-! ## What is handed over -/

/-- Device `c`'s place `j` of the gathered buffer; -/
def slotPts (c : Dev nD) (j : Fin 4) (f : Vec F S4x2x1024 .f32) : sProp 𝕄 :=
  (slotM j).view.loc (c : Thread nD τ) ↦[(slotM j).view.set]{fullShare} f
/-- and a share of its own partial sums. -/
def partPts (c : Dev nD) (q : PosShare TreeShare) : sProp 𝕄 :=
  pM.view.loc (c : Thread nD τ) ↦[pM.view.set]{q} partAt m c

omit [FloatOps F] in
instance slotPts_storable (c : Dev nD) (j : Fin 4) (f) : BI.Storable (upEmb : UEmb _ 𝕄) (slotPts (F := F) c j f) := by
  unfold slotPts; infer_instance
instance partPts_storable (c : Dev nD) (q) : BI.Storable (upEmb : UEmb _ 𝕄) (partPts (F := F) m c q) := by
  unfold partPts; infer_instance

/-- The duties of a device's cell: its barrier is signalled by every other device; a send or receive semaphore counts
    for every other device. -/
def dutyOf (c : Dev nD) : Role → Finset (Fin 4)
  | .bar => Finset.univ.erase c
  | .snd j => if j = c then ∅ else {0}
  | .rcv j => if j = c then ∅ else {0}
  | .copy => ∅

/-- The worth of a duty. -/
def amtOf : Role → ℕ
  | .bar => 1
  | _ => N

/-- What a duty hands over: device `p`'s signal to `c` hands `c` its place on `p`; a transfer read, the share it was
    read with; a transfer landed, the place with the sender's partial sums. -/
def payOf (c : Dev nD) (p : Fin 4) : Role → sProp 𝕄
  | .bar => iprop(∃ f, slotPts p c f)
  | .snd j => partPts m c (shareTok fullShare 4 j)
  | .rcv j => slotPts c j (commAll m)
  | .copy => iprop(emp)

/-- The schedule: one round. -/
def sched : Rounds.Schedule (GSem nD τ sig) (Fin 4) 𝕄 where
  duties g r := if r = 0 then dutyOf g.1.1 (role g.2) else ∅
  unitless _ := False
  amount g _ _ := amtOf (role g.2)
  payload g _ p := payOf m g.1.1 p (role g.2)
  amount_pos g _ _ _ := by
    cases role g.2
    · exact Nat.one_pos
    all_goals exact N_pos

instance sched_payload_storable (g : GSem nD τ sig) (r : ℕ) (p : Fin 4) :
    BI.Storable (upEmb : UEmb _ 𝕄) ((sched (F := F) m).payload g r p) := by
  show BI.Storable upEmb (payOf m g.1.1 p (role g.2))
  cases role g.2 <;> unfold payOf <;> infer_instance

theorem duties_later (g : GSem nD τ sig) : ∀ r, 1 ≤ r → (sched m).duties g r = ∅ :=
  fun r hr => if_neg (by omega)
theorem duties_bar (c : Dev nD) : (sched m).duties (barCell c) 0 = Finset.univ.erase c := rfl
theorem duties_snd (c : Dev nD) (j : Fin 4) : (sched m).duties (sndCell c j) 0 = if j = c then ∅ else {0} :=
  congrArg (dutyOf c) (role_snd j)
theorem duties_rcv (c : Dev nD) (j : Fin 4) : (sched m).duties (rcvCell c j) 0 = if j = c then ∅ else {0} :=
  congrArg (dutyOf c) (role_rcv j)
theorem amount_bar (c : Dev nD) (p : Fin 4) : (sched m).amount (barCell c) 0 p = 1 := rfl
theorem amount_snd (c : Dev nD) (j p : Fin 4) : (sched m).amount (sndCell c j) 0 p = N := congrArg amtOf (role_snd j)
theorem amount_rcv (c : Dev nD) (j p : Fin 4) : (sched m).amount (rcvCell c j) 0 p = N := congrArg amtOf (role_rcv j)
theorem payload_bar (c : Dev nD) (p : Fin 4) : (sched m).payload (barCell c) 0 p = iprop(∃ f, slotPts p c f) := rfl
theorem payload_snd (c : Dev nD) (j p : Fin 4) :
    (sched m).payload (sndCell c j) 0 p = partPts m c (shareTok fullShare 4 j) := congrArg (payOf m c p) (role_snd j)
theorem payload_rcv (c : Dev nD) (j p : Fin 4) :
    (sched m).payload (rcvCell c j) 0 p = slotPts c j (commAll m) := congrArg (payOf m c p) (role_rcv j)

/-- A cell that counts for its own device has no duty at all. -/
theorem duties_own_snd (c : Dev nD) : ∀ r, 0 ≤ r → (sched m).duties (sndCell c c) r = ∅ := fun r _ => by
  rcases Nat.eq_zero_or_pos r with rfl | h
  · rw [duties_snd, if_pos rfl]
  · exact duties_later m _ r h
theorem duties_own_rcv (c : Dev nD) : ∀ r, 0 ≤ r → (sched m).duties (rcvCell c c) r = ∅ := fun r _ => by
  rcases Nat.eq_zero_or_pos r with rfl | h
  · rw [duties_rcv, if_pos rfl]
  · exact duties_later m _ r h

theorem expect_bar (c : Dev nD) : (sched m).expect (barCell c) 0 = 3 := by
  unfold Schedule.expect Schedule.amountOf
  rw [duties_bar, Finset.sum_congr rfl fun p _ => amount_bar m c p]
  revert c; decide
theorem expect_snd (c : Dev nD) {j : Fin 4} (h : j ≠ c) : (sched m).expect (sndCell c j) 0 = N := by
  unfold Schedule.expect Schedule.amountOf
  rw [duties_snd, if_neg h, Finset.sum_singleton, amount_snd]
theorem expect_rcv (c : Dev nD) {j : Fin 4} (h : j ≠ c) : (sched m).expect (rcvCell c j) 0 = N := by
  unfold Schedule.expect Schedule.amountOf
  rw [duties_rcv, if_neg h, Finset.sum_singleton, amount_rcv]

/-! ## A family over the devices: one's own and the others' -/

theorem oth_ne (c : Dev nD) (i : Fin 3) : oth c i ≠ c := by revert c i; decide

/-- A family over the four devices is `c`'s member and the three others'. -/
theorem bigSep_dev (c : Dev nD) (Φ : Fin 4 → sProp 𝕄) :
    bigSep Finset.univ Φ = iprop(Φ c ∗ Φ (oth c 0) ∗ Φ (oth c 1) ∗ Φ (oth c 2)) :=
  bigSep_univ_eq_bigSepL [c, oth c 0, oth c 1, oth c 2] (by revert c; decide) (by revert c; decide) Φ

/-- A family over all devices but `c`. -/
theorem bigSep_others (c : Dev nD) (Φ : Fin 4 → sProp 𝕄) :
    bigSep (Finset.univ.erase c : Finset (Fin 4)) Φ = iprop(Φ (oth c 0) ∗ Φ (oth c 1) ∗ Φ (oth c 2)) :=
  bigSep_eq_bigSepL_of_eq [oth c 0, oth c 1, oth c 2] (by revert c; decide) (by revert c; decide) Φ

/-- What a device's barrier brings it: its place on each of the others. -/
theorem rest_bar (c : Dev nD) :
    bigSep ((sched m).duties (barCell c) 0 \ ∅) (fun p => (sched (F := F) m).payload (barCell c) 0 p)
      = iprop((∃ f, slotPts (oth c 0) c f) ∗ (∃ f, slotPts (oth c 1) c f) ∗ ∃ f, slotPts (oth c 2) c f) := by
  rw [Finset.sdiff_empty, duties_bar]
  exact bigSep_others c fun p => iprop(∃ f, slotPts p c f)
theorem rest_snd (c : Dev nD) {j : Fin 4} (h : j ≠ c) :
    bigSep ((sched m).duties (sndCell c j) 0 \ ∅) (fun p => (sched (F := F) m).payload (sndCell c j) 0 p)
      = partPts m c (shareTok fullShare 4 j) := by
  rw [Finset.sdiff_empty, duties_snd, if_neg h, bigSep_singleton, payload_snd]
theorem rest_rcv (c : Dev nD) {j : Fin 4} (h : j ≠ c) :
    bigSep ((sched m).duties (rcvCell c j) 0 \ ∅) (fun p => (sched (F := F) m).payload (rcvCell c j) 0 p)
      = slotPts c j (commAll m) := by
  rw [Finset.sdiff_empty, duties_rcv, if_neg h, bigSep_singleton, payload_rcv]

/-! ## What a device owes, and the levels -/

/-- What a device owes after all its signals and `k` of its transfers to go, counted from the last; -/
def owe1 (c : Dev nD) : CellTallies nD τ sig Unit := tallyAt (rcvCell (oth c 2) c) () N
def owe2 (c : Dev nD) : CellTallies nD τ sig Unit := owe1 c + tallyAt (rcvCell (oth c 1) c) () N
def owe3 (c : Dev nD) : CellTallies nD τ sig Unit := owe2 c + tallyAt (rcvCell (oth c 0) c) () N
/-- and before them its signals, the last one first. -/
def owe4 (c : Dev nD) : CellTallies nD τ sig Unit := owe3 c + tallyAt (barCell (oth c 2)) () 1
def owe5 (c : Dev nD) : CellTallies nD τ sig Unit := owe4 c + tallyAt (barCell (oth c 1)) () 1
def O₀ (c : Dev nD) : CellTallies nD τ sig Unit := owe5 c + tallyAt (barCell (oth c 0)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A role's level: the barriers below the receive semaphores, everything else at the bottom. -/
def lvOf : Role → ℕ
  | .bar => 1
  | .rcv _ => 2
  | _ => 0
def lv (g : GSem nD τ sig) (_ : Unit) : ℕ := lvOf (role g.2)

theorem tally_pos {g h : GSem nD τ sig} {n : ℕ} {u : Unit} (hp : 0 < tallyAt g () n h u) : h = g := by
  rw [tallyAt_apply] at hp
  by_contra hne
  rw [if_neg fun h' => hne h'.1] at hp
  exact Nat.lt_irrefl 0 hp

theorem add_pos_cases {O O' : CellTallies nD τ sig Unit} {g : GSem nD τ sig} {u : Unit} (h : 0 < (O + O') g u) :
    0 < O g u ∨ 0 < O' g u := by
  rw [Pi.add_apply, Finsupp.add_apply] at h; omega

/-- Once its signals are given a device owes receive semaphores only. -/
theorem owe3_pos {c : Dev nD} {g : GSem nD τ sig} {u : Unit} (h : 0 < owe3 c g u) : ∃ p : Dev nD, g = rcvCell p c := by
  rcases add_pos_cases h with h | h
  · rcases add_pos_cases h with h | h
    · exact ⟨_, tally_pos h⟩
    · exact ⟨_, tally_pos h⟩
  · exact ⟨_, tally_pos h⟩

/-- At launch a device owes receive semaphores and barriers only. -/
theorem O₀_pos {c : Dev nD} {g : GSem nD τ sig} {u : Unit} (h : 0 < O₀ c g u) :
    (∃ p : Dev nD, g = rcvCell p c) ∨ ∃ p : Dev nD, g = barCell p := by
  rcases add_pos_cases h with h | h
  · rcases add_pos_cases h with h | h
    · rcases add_pos_cases h with h | h
      · exact .inl (owe3_pos h)
      · exact .inr ⟨_, tally_pos h⟩
    · exact .inr ⟨_, tally_pos h⟩
  · exact .inr ⟨_, tally_pos h⟩

/-- A device may wait on a semaphore below everything it owes. -/
theorem mayWait_of (c : Dev nD) (sm : SemLoc sig) (O : CellTallies nD τ sig Unit) (cut : ℕ) (hs : lvOf (role sm) ≤ cut)
    (hO : ∀ g u, 0 < O g u → ∃ p : Dev nD, ∃ s, g = ((p : Thread nD τ), s) ∧ cut < lvOf (role s)) :
    (levAts L lv : sProp 𝕄) ⊢ MayWait (c : Thread nD τ) sm () O :=
  MayOwe.of_cut (L := L) (lev := lv) cut
    (fun p hp => by rw [Finset.mem_singleton.mp hp, L_tc]; exact Finset.mem_singleton_self _)
    (fun g u hg => by obtain ⟨p, s, rfl, -⟩ := hO g u hg; rw [L_tc]; exact Finset.mem_singleton_self _)
    (fun p hp => by rw [Finset.mem_singleton.mp hp]; exact hs)
    (fun g u hg => by obtain ⟨p, s, rfl, h⟩ := hO g u hg; exact h)

/-- At its barrier a device owes its transfers only. -/
theorem mayWait_bar (c : Dev nD) : (levAts L lv : sProp 𝕄) ⊢ MayWait (c : Thread nD τ) (.reg barS) () (owe3 c) :=
  mayWait_of c _ _ 1 (by decide) fun g u hg => by
    obtain ⟨p, rfl⟩ := owe3_pos hg
    exact ⟨p, _, rfl, by rw [role_rcv]; exact Nat.lt_succ_self 1⟩
/-- At the waits for its copies too. -/
theorem mayWait_copy (c : Dev nD) (i : Fin 2) : (levAts L lv : sProp 𝕄) ⊢ MayWait (c : Thread nD τ) (.dma (cpS i)) () (owe3 c) :=
  mayWait_of c _ _ 1 (by fin_cases i <;> decide) fun g u hg => by
    obtain ⟨p, rfl⟩ := owe3_pos hg
    exact ⟨p, _, rfl, by rw [role_rcv]; exact Nat.lt_succ_self 1⟩
/-- On a semaphore at the bottom a device may wait owing everything. -/
theorem mayWait_low (c : Dev nD) (sm : SemLoc sig) (hs : lvOf (role sm) = 0) :
    (levAts L lv : sProp 𝕄) ⊢ MayWait (c : Thread nD τ) sm () (O₀ c) :=
  mayWait_of c _ _ 0 (by rw [hs]) fun g u hg => by
    rcases O₀_pos hg with ⟨p, rfl⟩ | ⟨p, rfl⟩
    · exact ⟨p, _, rfl, by rw [role_rcv]; exact Nat.two_pos⟩
    · exact ⟨p, _, rfl, by decide⟩

end Cert.KernelIdeal.Red
-- ==== Proof.Steps.lean ====
module

public import proofs.«01_k».proof.Proof.Protocol

@[expose] public section

noncomputable section

/-! The steps of the line that touch another device: a signal, a transfer, and the three kinds of waits. -/

namespace Cert.KernelIdeal.Red

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

abbrev 𝒱₀ : Variants := Variants.none

/-- The claim about a piece of device `c`'s code. -/
abbrev wpC (c : Dev nD) (p : Code F) (Q : PUnit → sProp 𝕄) : sProp 𝕄 :=
  wp frame (wpE (defs₀ (F := F)) 𝒱₀ (c : Thread nD τ) none) Set.univ p Q

/-! ## The cells' indices and the shared records -/

/-- A device's nine cells: its barrier, its four send and its four receive semaphores. -/
def csem (k : Fin 9) : SemLoc sig :=
  Fin.cases (motive := fun _ => SemLoc sig) (.reg barS) (fun j : Fin 8 => .dma (⟨3 + j.val, by omega⟩ : Fin 11)) k
abbrev kcell (ck : Dev nD × Fin 9) : GSem nD τ sig := ((ck.1 : Thread nD τ), csem ck.2)
abbrev iS (j : Fin 4) : Fin 9 := Fin.succ (⟨j.val, by omega⟩ : Fin 8)
abbrev iR (j : Fin 4) : Fin 9 := Fin.succ (⟨4 + j.val, by omega⟩ : Fin 8)

theorem kcell_bar (c : Dev nD) : kcell (c, 0) = barCell c := rfl
theorem kcell_snd (c : Dev nD) (j : Fin 4) : kcell (c, iS j) = sndCell c j := rfl
theorem kcell_rcv (c : Dev nD) (j : Fin 4) : kcell (c, iR j) = rcvCell c j := by fin_cases j <;> rfl

/-- Every cell's invariant under its name, and that every cell has begun its round. -/
def records (K : Dev nD × Fin 9 → ℕ) : sProp 𝕄 :=
  iprop((bigSep Finset.univ fun ck : Dev nD × Fin 9 => cellInv ER (sched m) (K ck) (kcell ck))
    ∗ bigSep Finset.univ fun ck : Dev nD × Fin 9 => reached ER (kcell ck) 0)

instance records_persistent (K : Dev nD × Fin 9 → ℕ) : BI.Persistent (records m K) := by unfold records; infer_instance

theorem rec_at (K : Dev nD × Fin 9 → ℕ) (ck : Dev nD × Fin 9) {g : GSem nD τ sig} (h : kcell ck = g) :
    records m K ⊢ iprop(cellInv ER (sched m) (K ck) g ∗ reached ER g 0) := by
  subst h
  unfold records
  exact BI.sep_mono (bigSep_elim (Finset.mem_univ ck)) (bigSep_elim (Finset.mem_univ ck))

/-- What a device owes, whatever it has waited on. -/
def owesE (c : Dev nD) (O : CellTallies nD τ sig Unit) : sProp 𝕄 := iprop(∃ W, owes (c : Thread nD τ) O W)

section Steps

variable (K : Dev nD × Fin 9 → ℕ) (c j : Dev nD) {Q : PUnit → sProp (MT nD τ sig Unit (Elt F) ℕ UU ℕ)} {k : PUnit → Code F}

/-- A signal to device `j`'s barrier hands it `c`'s place for `j`'s partial sums. -/
theorem step_signal (h : c ≠ j) (O : CellTallies nD τ sig Unit) :
    iprop(records m K ∗ owesE c (O + tallyAt (barCell j) () 1) ∗ dutyTok ER (barCell j) 0 c ∗ ∃ f, slotPts c j f)
      ⊢ iprop((owesE c O -∗ wpC c (k ⟨⟩) Q) -∗ wpC c (.op (.semSignal (j : Thread nD τ) barS ((1 : ℕ) : ℤ)) k) Q) := by
  unfold owesE
  iintro ⟨#HR, ⟨%W, HO⟩, Ht, Hs⟩ Hk
  ihave Hc := (rec_at m K (j, 0) (kcell_bar j)) $$ HR
  icases Hc with ⟨#HI, #Hr⟩
  iapply (Rounds.wp_signal 𝒱₀ ER (sched m) (c : Thread nD τ) none (dst := (j : Thread nD τ)) (κ := K (j, 0)) (d := c)
      (by rw [duties_bar]; exact Finset.mem_erase.mpr ⟨h, Finset.mem_univ _⟩) (amount_bar m j c) () O rfl) $$ [HO Ht Hs]
  · isplitr; · iexact HI
    isplitl [HO]; · iexact HO
    isplitl [Ht]; · iexact Ht
    isplitl [Hs]; · rw [payload_bar]; iexact Hs
    iexact Hr
  iintro HO
  iapply Hk
  iexists W; iexact HO

/-- The wait at the barrier brings the device its place on each of the others. -/
theorem step_barrier :
    iprop(records m K ∗ levAts L lv ∗ owesE c (owe3 c) ∗ cred (tallyAt (barCell c) () 3) ∗ atPos ER (barCell c) 0 ∅ 0)
      ⊢ iprop(((owesE c (owe3 c) ∗ atPos ER (barCell c) 1 ∅ 0
            ∗ (∃ f, slotPts (oth c 0) c f) ∗ (∃ f, slotPts (oth c 1) c f) ∗ ∃ f, slotPts (oth c 2) c f) -∗ wpC c (k ⟨⟩) Q)
          -∗ wpC c (.op (.semWait barS ((3 : ℕ) : ℤ)) k) Q) := by
  unfold owesE
  iintro ⟨#HR, #Hlev, ⟨%W, HO⟩, Hc, Ha⟩ Hk
  ihave Hx := (rec_at m K (c, 0) (kcell_bar c)) $$ HR
  icases Hx with ⟨#HI, -⟩
  iapply (Rounds.wp_wait_rest_token 𝒱₀ ER (sched m) (c : Thread nD τ) none (κ := K (c, 0))
      (wpE_semWait_eq 𝒱₀ (c : Thread nD τ) none Set.univ) (Set.mem_univ _) () (O := owe3 c) (W := W) (R := 0) (m := 0) (T := ∅)
      (by rw [expect_bar])) $$ [Hc HO Ha]
  · isplitr; · iexact HI
    isplitl [Hc]; · iexact Hc
    isplitl [HO]; · iexact HO
    isplitr; · iapply (mayWait_bar c); iexact Hlev
    iexact Ha
  iintro ⟨HO, Ha, -, Hp⟩
  ihave Hp := (Entails.of_eq (rest_bar m c)) $$ Hp
  iapply Hk
  isplitl [HO]; · iexists _; iexact HO
  isplitl [Ha]; · iexact Ha
  iexact Hp

/-- The transfer into a place is credited as the partial sums' own size. -/
theorem amount_slot (j : Dev nD) (sm : Fin 11) : (slotM j).view.amount (.dma sm : SemLoc sig) = N := rfl

/-- The library's rule of a transfer, at this kernel's cells. -/
theorem wp_send_slot (κ₁ κ₂ : ℕ) (q : PosShare TreeShare) (f : Buf (Elt F) ((slotM c).view.loc (j : Thread nD τ)))
    (h : j ≠ c) (hq : q = shareTok fullShare 4 j) (O : CellTallies nD τ sig Unit) (W : Waits sig Unit) :
    iprop(cellInv ER (sched m) κ₁ (sndCell c j) ∗ cellInv ER (sched m) κ₂ (rcvCell j c)
        ∗ (pM.view.loc (c : Thread nD τ) ↦[pM.view.set]{q} partAt m c)
        ∗ ((slotM c).view.loc (j : Thread nD τ) ↦[(slotM c).view.set]{fullShare} f)
        ∗ owes (c : Thread nD τ) (O + tallyAt (rcvCell j c) () N) W
        ∗ dutyTok ER (sndCell c j) 0 0 ∗ reached ER (sndCell c j) 0
        ∗ dutyTok ER (rcvCell j c) 0 0 ∗ reached ER (rcvCell j c) 0)
      ⊢ iprop(((cred (tallyAt (sndCell c j) () N) ∗ owes (c : Thread nD τ) O W) -∗ wpC c (k ⟨⟩) Q) -∗ wpC c (sendTo c j k) Q) :=
  Rounds.wp_send_pointsTo (Val := Elt F) (defs := defs₀ (F := F)) 𝒱₀ ER (sched m) (c : Thread nD τ) none (c' := (j : Thread nD τ)) (src := pM) (dst := slotM c)
    (sS := .dma (sndS j)) (sem := .dma (rcvS c)) (q := q) (fs := partAt m c) (fd := f)
    (r₁ := 0) (r₂ := 0) (d₁ := 0) (d₂ := 0) (κ₁ := κ₁) (κ₂ := κ₂)
    (by rw [duties_snd, if_neg h]; exact Finset.mem_singleton_self _)
    (by rw [duties_rcv, if_neg (Ne.symm h)]; exact Finset.mem_singleton_self _)
    () () N (amount_slot c _) (amount_snd m c j 0) (amount_rcv m j c 0) O rfl (W := W)
    (by subst hq; rw [payload_snd]; exact BI.Entails.refl _)
    (by rw [payload_rcv]; unfold slotPts; exact Entails.of_eq (pointsTo_congr (landed m c f)))

/-- The transfer to device `j`: a share of the partial sums and the place on `j` go in, the send credit comes out. -/
theorem step_send (h : j ≠ c) (O : CellTallies nD τ sig Unit) :
    iprop(records m K ∗ owesE c (O + tallyAt (rcvCell j c) () N) ∗ partPts m c (shareTok fullShare 4 j) ∗ (∃ f, slotPts j c f)
        ∗ dutyTok ER (sndCell c j) 0 0 ∗ dutyTok ER (rcvCell j c) 0 0)
      ⊢ iprop(((owesE c O ∗ cred (tallyAt (sndCell c j) () N)) -∗ wpC c (k ⟨⟩) Q) -∗ wpC c (sendTo c j k) Q) := by
  unfold owesE partPts slotPts
  iintro ⟨#HR, ⟨%W, HO⟩, Hp, ⟨%f, Hs⟩, HtS, HtV⟩ Hk
  ihave Hx := (rec_at m K (c, iS j) (kcell_snd c j)) $$ HR
  icases Hx with ⟨#HIs, #Hrs⟩
  ihave Hx := (rec_at m K (j, iR c) (kcell_rcv j c)) $$ HR
  icases Hx with ⟨#HIv, #Hrv⟩
  iapply (wp_send_slot m c j (K (c, iS j)) (K (j, iR c)) _ f h rfl O W) $$ [HO Hp Hs HtS HtV]
  · isplitr; · iexact HIs
    isplitr; · iexact HIv
    isplitl [Hp]; · iexact Hp
    isplitl [Hs]; · iexact Hs
    isplitl [HO]; · iexact HO
    isplitl [HtS]; · iexact HtS
    isplitr; · iexact Hrs
    isplitl [HtV]; · iexact HtV
    iexact Hrv
  iintro ⟨Hc, HO⟩
  iapply Hk
  isplitl [HO]; · iexists W; iexact HO
  iexact Hc

/-- The wait for a transfer to have been read gives the share back. -/
theorem step_waitSend (h : j ≠ c) :
    iprop(records m K ∗ owesE c 0 ∗ cred (tallyAt (sndCell c j) () N) ∗ atPos ER (sndCell c j) 0 ∅ 0)
      ⊢ iprop(((owesE c 0 ∗ atPos ER (sndCell c j) 1 ∅ 0 ∗ partPts m c (shareTok fullShare 4 j)) -∗ wpC c (k ⟨⟩) Q)
          -∗ wpC c (waitSend c j k) Q) := by
  unfold owesE
  iintro ⟨#HR, ⟨%W, HO⟩, Hc, Ha⟩ Hk
  ihave Hx := (rec_at m K (c, iS j) (kcell_snd c j)) $$ HR
  icases Hx with ⟨#HI, -⟩
  iapply (Rounds.wp_wait_rest_token 𝒱₀ ER (sched m) (c : Thread nD τ) none (κ := K (c, iS j))
      (wpE_waitDma2_eq 𝒱₀ (c : Thread nD τ) none Set.univ) (Set.mem_univ _) () (O := 0) (W := W) (R := 0) (m := 0) (T := ∅)
      (by rw [Nat.zero_add, expect_snd m c h])) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (Entails.of_eq (rest_snd m c h)) $$ Hp
  iapply Hk
  isplitl [HO]; · iexists _; iexact HO
  isplitl [Ha]; · iexact Ha
  iexact Hp

/-- The wait for device `j`'s partial sums gives their place back, holding them. -/
theorem step_waitRecv (h : j ≠ c) :
    iprop(records m K ∗ owesE c 0 ∗ cred (tallyAt (rcvCell c j) () N) ∗ atPos ER (rcvCell c j) 0 ∅ 0)
      ⊢ iprop(((owesE c 0 ∗ atPos ER (rcvCell c j) 1 ∅ 0 ∗ slotPts c j (commAll m)) -∗ wpC c (k ⟨⟩) Q)
          -∗ wpC c (waitRecv j k) Q) := by
  unfold owesE
  iintro ⟨#HR, ⟨%W, HO⟩, Hc, Ha⟩ Hk
  ihave Hx := (rec_at m K (c, iR j) (kcell_rcv c j)) $$ HR
  icases Hx with ⟨#HI, -⟩
  iapply (Rounds.wp_wait_rest_token 𝒱₀ ER (sched m) (c : Thread nD τ) none (κ := K (c, iR j))
      (wpE_waitDma2_eq 𝒱₀ (c : Thread nD τ) none Set.univ) (Set.mem_univ _) () (O := 0) (W := W) (R := 0) (m := 0) (T := ∅)
      (by rw [Nat.zero_add, expect_rcv m c h])) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (Entails.of_eq (rest_rcv m c h)) $$ Hp
  iapply Hk
  isplitl [HO]; · iexists _; iexact HO
  isplitl [Ha]; · iexact Ha
  iexact Hp

end Steps

end Cert.KernelIdeal.Red
-- ==== Proof.Sound.lean ====
module

public import proofs.«01_k».proof.Proof.Steps

@[expose] public section

noncomputable section

/-! The line of one device, piece by piece from its end. -/

namespace Cert.KernelIdeal.Red

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The buffers of a device -/

def oPts (c : Dev nD) (f : Vec F S2x1024 .f32) : sProp 𝕄 := ((c : Thread nD τ).loc cc0_stg0_0) ↦{fullShare} f
def pPts (c : Dev nD) (f : Vec F S2x1024 .f32) : sProp 𝕄 := ((c : Thread nD τ).loc cc0_scratch0) ↦{fullShare} f
def gPts (c : Dev nD) (f : Vec F S4x2x1024 .f32) : sProp 𝕄 := ((c : Thread nD τ).loc cc0_scratch1) ↦{fullShare} f
def xPts (c : Dev nD) (f : Vec F S512x1024 .f32) : sProp 𝕄 := ((c : Thread nD τ).loc cc0_scratch2) ↦{fullShare} f
def yPts (c : Dev nD) (f : Vec F S512x1024 .f32) : sProp 𝕄 := ((c : Thread nD τ).loc cc0_scratch3) ↦{fullShare} f
/-- The two inputs, unchanged. -/
def inPts (c : Dev nD) (b : Ref sig .tc) : sProp 𝕄 := ((c : Thread nD τ).loc b) ↦{fullShare} m ((c : Thread nD τ).loc b)

/-- The gathered buffer is its four places. -/
theorem slots_eq (c : Dev nD) (f : Vec F S4x2x1024 .f32) :
    (bigSep Finset.univ fun j : Fin 4 => slotPts c j f) = gPts c f := by
  have hu : (Finset.univ : Finset (Fin 4)).biUnion (fun j => (slotM j).view.set) = (Finset.univ : Finset S4x2x1024.Idx) :=
    Finset.eq_univ_iff_forall.mpr fun x => Finset.mem_biUnion.mpr ⟨x (0 : Fin 3), Finset.mem_univ _, (mem_slot _ x).mpr rfl⟩
  have h := pointsTo_biUnion (ℓ := (c : Thread nD τ).loc cc0_scratch1) (q := fullShare) (f := f) (Ix := Unit) (Name := ℕ) (U := UU) (Lvl := ℕ)
    Finset.univ (fun j : Fin 4 => (slotM j).view.set) (fun i _ j _ hij =>
      Finset.disjoint_left.mpr fun x hx hy => hij (((mem_slot i x).mp hx).symm.trans ((mem_slot j x).mp hy)))
  rw [hu] at h
  exact h.symm

/-- The partial sums' buffer is what is kept of it and a share for each device. -/
theorem part_shares (c : Dev nD) :
    pPts c (partAt m c) ⊣⊢ iprop(partPts m c (shareDrop fullShare 4) ∗ bigSep Finset.univ fun j : Fin 4 => partPts m c (shareTok fullShare 4 j)) := by
  unfold pPts partPts
  rw [show pM.view.set = Finset.univ from View.set_whole _]
  exact ⟨Transfers.pointsTo_toks_split fullShare 4, Transfers.pointsTo_toks_join fullShare 4⟩

/-- Three of the other devices' cells at a round. -/
def at3 (g : Fin 3 → GSem nD τ sig) (r : ℕ) : sProp 𝕄 :=
  iprop(atPos ER (g 0) r ∅ 0 ∗ atPos ER (g 1) r ∅ 0 ∗ atPos ER (g 2) r ∅ 0)

section Sound

variable (K : Dev nD × Fin 9 → ℕ) (c : Dev nD) (Q : PUnit → sProp (MT nD τ sig Unit (Elt F) ℕ UU ℕ))

/-- The last piece leaves the result. -/
theorem sound_out :
    iprop(gPts c (commAll m) ∗ (∃ f, oPts c f) ∗ ((gPts c (commAll m) ∗ oPts c (outAll m)) -∗ |={Set.univ}=> Q ⟨⟩)) ⊢ wpC c lineOut Q := by
  unfold gPts oPts
  iintro ⟨Hg, ⟨%f, Ho⟩, Hk⟩
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Ho; iintro Ho
  iapply (wp_store 𝒱₀ (c : Thread nD τ) none Set.univ (m := oM) (r := fullR) (Mk := Finset.univ) (Finset.subset_univ _)) $$ Ho; iintro Ho
  rw [write_o, wp_ret]
  iapply Hk
  isplitl [Hg]; · iexact Hg
  iexact Ho

/-- From the waits for the others' partial sums on. -/
theorem sound_recv :
    iprop(records m K ∗ owesE c 0 ∗ (cred (tallyAt (rcvCell c (oth c 0)) () N) ∗ cred (tallyAt (rcvCell c (oth c 1)) () N)
          ∗ cred (tallyAt (rcvCell c (oth c 2)) () N)) ∗ at3 (fun i => rcvCell c (oth c i)) 0
        ∗ slotPts c c (commAll m) ∗ (∃ f, oPts c f)
        ∗ ((owesE c 0 ∗ at3 (fun i => rcvCell c (oth c i)) 1 ∗ gPts c (commAll m) ∗ oPts c (outAll m)) -∗ |={Set.univ}=> Q ⟨⟩))
      ⊢ wpC c (lineRecv c) Q := by
  unfold at3
  iintro ⟨#HR, HO, ⟨Hc0, Hc1, Hc2⟩, ⟨Ha0, Ha1, Ha2⟩, Hs, Ho, Hk⟩
  iapply (step_waitRecv m K c (oth c 0) (oth_ne c 0)) $$ [HO Hc0 Ha0]
  · isplitr; · iexact HR
    isplitl [HO]; · iexact HO
    isplitl [Hc0] <;> iassumption
  iintro ⟨HO, Ha0, Hs0⟩
  iapply (step_waitRecv m K c (oth c 1) (oth_ne c 1)) $$ [HO Hc1 Ha1]
  · isplitr; · iexact HR
    isplitl [HO]; · iexact HO
    isplitl [Hc1] <;> iassumption
  iintro ⟨HO, Ha1, Hs1⟩
  iapply (step_waitRecv m K c (oth c 2) (oth_ne c 2)) $$ [HO Hc2 Ha2]
  · isplitr; · iexact HR
    isplitl [HO]; · iexact HO
    isplitl [Hc2] <;> iassumption
  iintro ⟨HO, Ha2, Hs2⟩
  iapply (sound_out m c Q)
  rw [← slots_eq, bigSep_dev c]
  isplitl [Hs Hs0 Hs1 Hs2]
  · isplitl [Hs]; · iexact Hs
    isplitl [Hs0]; · iexact Hs0
    isplitl [Hs1] <;> iassumption
  isplitl [Ho]; · iexact Ho
  iintro ⟨Hg, Ho⟩
  iapply Hk
  isplitl [HO]; · iexact HO
  isplitl [Ha0 Ha1 Ha2]
  · isplitl [Ha0]; · iexact Ha0
    isplitl [Ha1] <;> iassumption
  isplitl [Hg] <;> iassumption

/-- What a device spends on its three transfers: the tokens of the duties they pay. -/
def sendToks (j : Dev nD) : sProp 𝕄 := iprop(dutyTok ER (sndCell c j) 0 0 ∗ dutyTok ER (rcvCell j c) 0 0)

set_option maxHeartbeats 800000 in
/-- From the wait at the barrier on. -/
theorem sound_send :
    iprop(records m K ∗ levAts L lv ∗ owesE c (owe3 c) ∗ cred (tallyAt (barCell c) () 3) ∗ atPos ER (barCell c) 0 ∅ 0
        ∗ pPts c (partAt m c) ∗ (∃ f, slotPts c c f) ∗ (sendToks c (oth c 0) ∗ sendToks c (oth c 1) ∗ sendToks c (oth c 2))
        ∗ at3 (fun i => sndCell c (oth c i)) 0
        ∗ (cred (tallyAt (rcvCell c (oth c 0)) () N) ∗ cred (tallyAt (rcvCell c (oth c 1)) () N)
          ∗ cred (tallyAt (rcvCell c (oth c 2)) () N)) ∗ at3 (fun i => rcvCell c (oth c i)) 0 ∗ (∃ f, oPts c f)
        ∗ ((owesE c 0 ∗ atPos ER (barCell c) 1 ∅ 0 ∗ at3 (fun i => sndCell c (oth c i)) 1 ∗ at3 (fun i => rcvCell c (oth c i)) 1
            ∗ pPts c (partAt m c) ∗ gPts c (commAll m) ∗ oPts c (outAll m)) -∗ |={Set.univ}=> Q ⟨⟩))
      ⊢ wpC c (lineSend c) Q := by
  iintro ⟨#HR, #Hlev, HO, HcB, HaB, Hp, ⟨%f, Hs⟩, ⟨Ht0, Ht1, Ht2⟩, HaS, HcV, HaV, Ho, Hk⟩
  iapply (step_barrier m K c) $$ [HO HcB HaB]
  · isplitr; · iexact HR
    isplitr; · iexact Hlev
    isplitl [HO]; · iexact HO
    isplitl [HcB] <;> iassumption
  iintro ⟨HO, HaB, Hd0, Hd1, Hd2⟩
  unfold pPts
  iapply (wp_load 𝒱₀ (c : Thread nD τ) none Set.univ (m := pM) (Finset.subset_univ _)) $$ Hp; iintro Hp
  rw [read_p]
  unfold slotPts
  iapply (wp_load_rect 𝒱₀ (c : Thread nD τ) none Set.univ (m := gM) (r := slotR c) ((slot_set c).symm.subset)) $$ Hs; iintro Hs
  iapply (wp_store 𝒱₀ (c : Thread nD τ) none Set.univ (m := gM) (r := slotR c) (Mk := Finset.univ)
    ((slot_set c).symm.subset)) $$ Hs; iintro Hs
  ihave Hs := (Entails.of_eq (pointsTo_congr (stored m c f))) $$ Hs
  ihave Hp := (show iprop(pM.view.loc (c : Thread nD τ) ↦{fullShare} partAt m c) ⊢ _ from (part_shares m c).1) $$ Hp
  rw [bigSep_dev c]
  icases Hp with ⟨Hpd, Hpc, Hp0, Hp1, Hp2⟩
  unfold sendToks owe3 owe2
  icases Ht0 with ⟨HtS0, HtV0⟩
  icases Ht1 with ⟨HtS1, HtV1⟩
  icases Ht2 with ⟨HtS2, HtV2⟩
  iapply (step_send m K c (oth c 0) (oth_ne c 0)) $$ [HO Hp0 Hd0 HtS0 HtV0]
  · isplitr; · iexact HR
    isplitl [HO]; · iexact HO
    isplitl [Hp0]; · iexact Hp0
    isplitl [Hd0]; · iexact Hd0
    isplitl [HtS0] <;> iassumption
  iintro ⟨HO, Hc0⟩
  iapply (step_send m K c (oth c 1) (oth_ne c 1)) $$ [HO Hp1 Hd1 HtS1 HtV1]
  · isplitr; · iexact HR
    isplitl [HO]; · iexact HO
    isplitl [Hp1]; · iexact Hp1
    isplitl [Hd1]; · iexact Hd1
    isplitl [HtS1] <;> iassumption
  iintro ⟨HO, Hc1⟩
  iapply (step_send m K c (oth c 2) (oth_ne c 2) 0) $$ [HO Hp2 Hd2 HtS2 HtV2]
  · isplitr; · iexact HR
    isplitl [HO]; · rw [zero_add]; unfold owe1; iexact HO
    isplitl [Hp2]; · iexact Hp2
    isplitl [Hd2]; · iexact Hd2
    isplitl [HtS2] <;> iassumption
  iintro ⟨HO, Hc2⟩
  unfold at3
  icases HaS with ⟨Ha0, Ha1, Ha2⟩
  iapply (step_waitSend m K c (oth c 0) (oth_ne c 0)) $$ [HO Hc0 Ha0]
  · isplitr; · iexact HR
    isplitl [HO]; · iexact HO
    isplitl [Hc0] <;> iassumption
  iintro ⟨HO, Ha0, Hp0⟩
  iapply (step_waitSend m K c (oth c 1) (oth_ne c 1)) $$ [HO Hc1 Ha1]
  · isplitr; · iexact HR
    isplitl [HO]; · iexact HO
    isplitl [Hc1] <;> iassumption
  iintro ⟨HO, Ha1, Hp1⟩
  iapply (step_waitSend m K c (oth c 2) (oth_ne c 2)) $$ [HO Hc2 Ha2]
  · isplitr; · iexact HR
    isplitl [HO]; · iexact HO
    isplitl [Hc2] <;> iassumption
  iintro ⟨HO, Ha2, Hp2⟩
  iapply (sound_recv m K c Q)
  isplitr; · iexact HR
  isplitl [HO]; · iexact HO
  isplitl [HcV]; · iexact HcV
  isplitl [HaV]; · unfold at3; iexact HaV
  isplitl [Hs]; · unfold slotPts; iexact Hs
  isplitl [Ho]; · iexact Ho
  iintro ⟨HO, HaV, Hg, Ho⟩
  iapply Hk
  isplitl [HO]; · iexact HO
  isplitl [HaB]; · iexact HaB
  isplitl [Ha0 Ha1 Ha2]
  · isplitl [Ha0]; · iexact Ha0
    isplitl [Ha1] <;> iassumption
  isplitl [HaV]; · unfold at3; iexact HaV
  isplitl [Hpd Hpc Hp0 Hp1 Hp2]
  · iapply (show _ ⊢ iprop(((c : Thread nD τ).loc cc0_scratch0) ↦{fullShare} partAt m c) from (part_shares m c).2)
    rw [bigSep_dev c]
    isplitl [Hpd]; · iexact Hpd
    isplitl [Hpc]; · iexact Hpc
    isplitl [Hp0]; · iexact Hp0
    isplitl [Hp1] <;> iassumption
  isplitl [Hg] <;> iassumption

/-- The partial sums are computed from the copied rows. -/
theorem sound_sums :
    iprop(xPts c (xAt m c) ∗ yPts c (yAt m c) ∗ (∃ f, pPts c f)
        ∗ ((xPts c (xAt m c) ∗ yPts c (yAt m c) ∗ pPts c (partAt m c)) -∗ wpC c (lineSend c) Q))
      ⊢ wpC c (lineSums c) Q := by
  unfold xPts yPts pPts
  iintro ⟨Hx, Hy, ⟨%f, Hp⟩, Hk⟩
  iapply (wp_load 𝒱₀ (c : Thread nD τ) none Set.univ (m := xM) (Finset.subset_univ _)) $$ Hx; iintro Hx
  rw [read_x]
  iapply (wp_load 𝒱₀ (c : Thread nD τ) none Set.univ (m := yM) (Finset.subset_univ _)) $$ Hy; iintro Hy
  rw [read_y]
  iapply (wp_load 𝒱₀ (c : Thread nD τ) none Set.univ (m := pM) (Finset.subset_univ _)) $$ Hp; iintro Hp
  iapply (wp_store 𝒱₀ (c : Thread nD τ) none Set.univ (m := pM) (r := row0R) (Mk := Finset.univ) (Finset.subset_univ _)) $$ Hp; iintro Hp
  iapply (wp_load 𝒱₀ (c : Thread nD τ) none Set.univ (m := pM) (Finset.subset_univ _)) $$ Hp; iintro Hp
  iapply (wp_store 𝒱₀ (c : Thread nD τ) none Set.univ (m := pM) (r := row1R) (Mk := Finset.univ) (Finset.subset_univ _)) $$ Hp; iintro Hp
  rw [write_rows]
  iapply Hk
  isplitl [Hx]; · iexact Hx
  isplitl [Hy]; · iexact Hy
  iexact Hp

end Sound

end Cert.KernelIdeal.Red
-- ==== Proof.Body.lean ====
module

public import proofs.«01_k».proof.Proof.Sound

@[expose] public section

noncomputable section

/-! The whole line of a device from what the launch gives it, and the body's obligation. -/

namespace Cert.KernelIdeal.Red

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds
open Idealize.ShloMosaic.Transfers (shareDrop shareTok)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What a device holds besides its buffers -/

/-- Its positions at its nine cells and the tokens of the duties it pays. -/
def linear (c : Dev nD) : sProp 𝕄 :=
  iprop((atPos ER (barCell c) 0 ∅ 0 ∗ (bigSep Finset.univ fun j : Fin 4 => atPos ER (sndCell c j) 0 ∅ 0)
      ∗ bigSep Finset.univ fun j : Fin 4 => atPos ER (rcvCell c j) 0 ∅ 0)
    ∗ (bigSep Finset.univ fun p : Fin 4 => dutyTok ER (barCell p) 0 c) ∗ bigSep Finset.univ fun p : Fin 4 => sendToks c p)

/-- The credits of the units it is owed. -/
def credits (c : Dev nD) : sProp 𝕄 :=
  iprop(cred (tallyAt (barCell c) () 3) ∗ cred (tallyAt (rcvCell c (oth c 0)) () N) ∗ cred (tallyAt (rcvCell c (oth c 1)) () N)
    ∗ cred (tallyAt (rcvCell c (oth c 2)) () N))

/-- The two semaphores of its local copies, at zero. -/
def cpZero (c : Dev nD) : sProp 𝕄 := iprop(semVal (cpCell c 0) 0 ∗ semVal (cpCell c 1) 0)

/-- Its send and receive semaphores at zero. -/
def dmaZero (c : Dev nD) : sProp 𝕄 :=
  iprop((bigSep Finset.univ fun j : Fin 4 => semVal (sndCell c j) 0) ∗ bigSep Finset.univ fun j : Fin 4 => semVal (rcvCell c j) 0)

/-- The scratch buffers at some contents. -/
def scratch (c : Dev nD) : sProp 𝕄 :=
  iprop((∃ f, pPts c f) ∗ (∃ f, gPts c f) ∗ (∃ f, xPts c f) ∗ ∃ f, yPts c f)

/-- The two inputs the body copies from. -/
def inputs (c : Dev nD) : sProp 𝕄 := iprop(inPts m c main_arg0 ∗ inPts m c main_arg1)

/-- What a device starts with besides its scratch; -/
def start (c : Dev nD) : sProp 𝕄 :=
  iprop((∃ K, records m K ∗ linear c) ∗ cpZero c ∗ credits c ∗ levAts L lv ∗ inputs m c)
/-- before the point; -/
def Φ₀ (c : Dev nD) : sProp 𝕄 := iprop(start m c ∗ scratch c)
/-- and after it: every semaphore at zero and closed, the inputs unchanged. -/
def Φ₁ (c : Dev nD) : sProp 𝕄 :=
  iprop(scratch c ∗ (cpZero c ∗ dmaZero c) ∗ semVal (barCell c) 0 ∗ inputs m c)

/-! ## Closing the cells -/

theorem close_at (K : Dev nD × Fin 9 → ℕ) (ck : Dev nD × Fin 9) {g : GSem nD τ sig} (h : kcell ck = g) (r : ℕ)
    (hr : ∀ r', r ≤ r' → (sched m).duties g r' = ∅) :
    iprop(records m K ∗ atPos ER g r ∅ 0) ⊢ (|={Set.univ}=> semVal g 0 : sProp 𝕄) := by
  iintro ⟨#HR, Ha⟩
  ihave Hx := (rec_at m K ck h) $$ HR
  icases Hx with ⟨#HI, -⟩
  iapply (Rounds.cell_close ER (sched m) (Es := Set.univ) (κ := K ck) (Set.mem_univ _) (fun h => h) (R := r) hr)
  isplitr; · iexact HI
  iexact Ha

/-- The cells of one kind of a device: its own, which counted nothing, and the three others', which had their round. -/
theorem close_four (K : Dev nD × Fin 9 → ℕ) (c : Dev nD) (i : Fin 4 → Fin 9) (g : Fin 4 → GSem nD τ sig)
    (h : ∀ j, kcell (c, i j) = g j) (h0 : ∀ r', 0 ≤ r' → (sched m).duties (g c) r' = ∅) :
    iprop(records m K ∗ atPos ER (g c) 0 ∅ 0 ∗ at3 (fun i => g (oth c i)) 1)
      ⊢ (|={Set.univ}=> bigSep Finset.univ fun j : Fin 4 => semVal (g j) 0 : sProp 𝕄) := by
  unfold at3
  iintro ⟨#HR, Ha, Ha0, Ha1, Ha2⟩
  imod (close_at m K (c, i c) (h c) 0 h0) $$ [Ha] with Hz
  · isplitr; · iexact HR
    iexact Ha
  imod (close_at m K (c, i (oth c 0)) (h _) 1 (duties_later m _)) $$ [Ha0] with Hz0
  · isplitr; · iexact HR
    iexact Ha0
  imod (close_at m K (c, i (oth c 1)) (h _) 1 (duties_later m _)) $$ [Ha1] with Hz1
  · isplitr; · iexact HR
    iexact Ha1
  imod (close_at m K (c, i (oth c 2)) (h _) 1 (duties_later m _)) $$ [Ha2] with Hz2
  · isplitr; · iexact HR
    iexact Ha2
  imodintro
  rw [bigSep_dev c]
  isplitl [Hz]; · iexact Hz
  isplitl [Hz0]; · iexact Hz0
  isplitl [Hz1] <;> iassumption

/-! ## The local copies -/

/-- The rows copied, as a part of the input they come from. -/
theorem rows_split (c : Dev nD) {b : Ref sig .tc} (I : Finset (Idx ((c : Thread nD τ).loc b))) :
    inPts m c b ⊣⊢ iprop((((c : Thread nD τ).loc b) ↦[I]{fullShare} m ((c : Thread nD τ).loc b))
      ∗ (((c : Thread nD τ).loc b) ↦[Finset.univ \ I]{fullShare} m ((c : Thread nD τ).loc b))) :=
  pointsTo_split_subset (Finset.subset_univ I)

section Line

variable (K : Dev nD × Fin 9 → ℕ) (c : Dev nD) (Q : PUnit → sProp (MT nD τ sig Unit (Elt F) ℕ UU ℕ))

set_option maxHeartbeats 1600000 in
/-- The whole line, from the start to every cell closed. -/
theorem sound_line :
    iprop(Φ₀ m c ∗ owesE c (O₀ c) ∗ (∃ f, oPts c f) ∗ ((Φ₁ m c ∗ owesE c 0 ∗ oPts c (outAll m)) -∗ Q ⟨⟩)) ⊢ wpC c (line c) Q := by
  unfold line Φ₀ start linear cpZero credits inputs scratch
  iintro ⟨⟨⟨⟨%K, #HR, ⟨HaB, HaS, HaV⟩, HtB, HtS⟩, ⟨Hz0, Hz1⟩, ⟨HcB, HcV⟩, #Hlev, ⟨Hi0, Hi1⟩⟩, Hp, ⟨%g, Hg⟩, ⟨%x, Hx⟩, ⟨%y, Hy⟩⟩, HO, Ho, Hk⟩
  -- the two copies
  ihave Hi0 := (rows_split m c (b := main_arg0) (xRows c).view.set).1 $$ Hi0
  icases Hi0 with ⟨Hr0, Hi0⟩
  ihave Hi1 := (rows_split m c (b := main_arg1) (yRows c).view.set).1 $$ Hi1
  icases Hi1 with ⟨Hr1, Hi1⟩
  unfold xPts yPts
  iapply (Transfers.wp_dmaLocal EC 𝒱₀ (c : Thread nD τ) none (src := xRows c) (dst := xM) () (xM.view.dmaCredit) rfl (View.dmaCredit_pos _ (by decide))
      (Finset.subset_univ _)) $$ [Hr0 Hx Hz0]
  · isplitl [Hr0]; · iexact Hr0
    isplitl [Hx] <;> iassumption
  iintro Hf0
  iapply (Transfers.wp_dmaLocal EC 𝒱₀ (c : Thread nD τ) none (src := yRows c) (dst := yM) () (yM.view.dmaCredit) rfl (View.dmaCredit_pos _ (by decide))
      (Finset.subset_univ _)) $$ [Hr1 Hy Hz1]
  · isplitl [Hr1]; · iexact Hr1
    isplitl [Hy] <;> iassumption
  iintro Hf1
  -- the three signals, each with a place of the gathered buffer
  ihave Hg := (Entails.of_eq ((slots_eq c g).symm.trans (bigSep_dev c _))) $$ Hg
  ihave HtB := (Entails.of_eq (bigSep_dev c (fun p => (dutyTok ER (barCell p) 0 c : sProp 𝕄)))) $$ HtB
  icases Hg with ⟨Hs, Hs0, Hs1, Hs2⟩
  icases HtB with ⟨-, HtB0, HtB1, HtB2⟩
  unfold O₀ owe5 owe4
  iapply (step_signal m K c (oth c 0) (oth_ne c 0).symm) $$ [HO HtB0 Hs0]
  · isplitr; · iexact HR
    isplitl [HO]; · iexact HO
    isplitl [HtB0]; · iexact HtB0
    iexists g; iexact Hs0
  iintro HO
  iapply (step_signal m K c (oth c 1) (oth_ne c 1).symm) $$ [HO HtB1 Hs1]
  · isplitr; · iexact HR
    isplitl [HO]; · iexact HO
    isplitl [HtB1]; · iexact HtB1
    iexists g; iexact Hs1
  iintro HO
  iapply (step_signal m K c (oth c 2) (oth_ne c 2).symm) $$ [HO HtB2 Hs2]
  · isplitr; · iexact HR
    isplitl [HO]; · iexact HO
    isplitl [HtB2]; · iexact HtB2
    iexists g; iexact Hs2
  iintro HO
  -- the waits for the copies
  unfold owesE
  icases HO with ⟨%W, HO⟩
  iapply (Transfers.wp_waitLocalO EC 𝒱₀ (c : Thread nD τ) none () (N := xM.view.dmaCredit) rfl) $$ [Hf0 HO]
  · isplitl [Hf0]; · iexact Hf0
    isplitl [HO]; · iexact HO
    iapply (mayWait_copy c 0); iexact Hlev
  iintro ⟨⟨Hx, Hr0⟩, Hz0, HO⟩
  iapply (Transfers.wp_waitLocalO EC 𝒱₀ (c : Thread nD τ) none () (N := yM.view.dmaCredit) rfl) $$ [Hf1 HO]
  · isplitl [Hf1]; · iexact Hf1
    isplitl [HO]; · iexact HO
    iapply (mayWait_copy c 1); iexact Hlev
  iintro ⟨⟨Hy, Hr1⟩, Hz1, HO⟩
  ihave Hi0 := (rows_split m c (b := main_arg0) (xRows c).view.set).2 $$ [Hr0 Hi0]
  · isplitl [Hr0] <;> iassumption
  ihave Hi1 := (rows_split m c (b := main_arg1) (yRows c).view.set).2 $$ [Hr1 Hi1]
  · isplitl [Hr1] <;> iassumption
  -- the partial sums, and all that follows
  iapply (sound_sums m c Q)
  isplitl [Hx]
  · unfold xPts
    iapply (Entails.of_eq (congrArg (fun f => (((c : Thread nD τ).loc cc0_scratch2) ↦{fullShare} f : sProp 𝕄))
      (View.write_whole_univ cc0_scratch2 x (xAt m c)))); iexact Hx
  isplitl [Hy]
  · unfold yPts
    iapply (Entails.of_eq (congrArg (fun f => (((c : Thread nD τ).loc cc0_scratch3) ↦{fullShare} f : sProp 𝕄))
      (View.write_whole_univ cc0_scratch3 y (yAt m c)))); iexact Hy
  isplitl [Hp]; · iexact Hp
  iintro ⟨Hx, Hy, Hp⟩
  ihave HaS := (Entails.of_eq (bigSep_dev c (fun j => (atPos ER (sndCell c j) 0 ∅ 0 : sProp 𝕄)))) $$ HaS
  ihave HaV := (Entails.of_eq (bigSep_dev c (fun j => (atPos ER (rcvCell c j) 0 ∅ 0 : sProp 𝕄)))) $$ HaV
  ihave HtS := (Entails.of_eq (bigSep_dev c (fun p => (sendToks c p : sProp 𝕄)))) $$ HtS
  icases HaS with ⟨HaSc, HaS⟩
  icases HaV with ⟨HaVc, HaV⟩
  icases HtS with ⟨-, HtS⟩
  iapply (sound_send m K c Q)
  isplitr; · iexact HR
  isplitr; · iexact Hlev
  isplitl [HO]; · unfold owesE; iexists _; iexact HO
  isplitl [HcB]; · iexact HcB
  isplitl [HaB]; · iexact HaB
  isplitl [Hp]; · iexact Hp
  isplitl [Hs]; · iexists g; iexact Hs
  isplitl [HtS]; · iexact HtS
  isplitl [HaS]; · unfold at3; iexact HaS
  isplitl [HcV]; · iexact HcV
  isplitl [HaV]; · unfold at3; iexact HaV
  isplitl [Ho]; · iexact Ho
  iintro ⟨HO, HaB, HaS, HaV, Hp, Hg, Ho⟩
  -- every cell closed
  imod (close_at m K (c, 0) (kcell_bar c) 1 (duties_later m _)) $$ [HaB] with HzB
  · isplitr; · iexact HR
    iexact HaB
  imod (close_four m K c iS (sndCell c) (kcell_snd c) (duties_own_snd m c)) $$ [HaSc HaS] with HzS
  · isplitr; · iexact HR
    isplitl [HaSc] <;> iassumption
  imod (close_four m K c iR (rcvCell c) (kcell_rcv c) (duties_own_rcv m c)) $$ [HaVc HaV] with HzV
  · isplitr; · iexact HR
    isplitl [HaVc] <;> iassumption
  imodintro
  iapply Hk
  unfold Φ₁ scratch cpZero dmaZero inputs
  isplitl [Hp Hg Hx Hy Hz0 Hz1 HzS HzV HzB Hi0 Hi1]
  · isplitl [Hp Hg Hx Hy]
    · isplitl [Hp]; · iexists _; iexact Hp
      isplitl [Hg]; · iexists _; iexact Hg
      isplitl [Hx]; · iexists _; iexact Hx
      iexists _; iexact Hy
    isplitl [Hz0 Hz1 HzS HzV]
    · isplitl [Hz0 Hz1]
      · isplitl [Hz0] <;> iassumption
      isplitl [HzS] <;> iassumption
    isplitl [HzB]; · iexact HzB
    isplitl [Hi0] <;> iassumption
  unfold owesE
  isplitl [HO] <;> iassumption

end Line

/-! ## The obligation -/

variable (ρ : Dev nD → PrngReg)

def s₀ : MemSt nD τ sig (Elt F) := ⟨m, fun _ => 0, ρ⟩

/-- The pipeline's data: the result window starts as launched and ends at the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAll m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 1)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staging buffer at contents `X`. -/
abbrev stg (c : Dev nD) (X : Vec F S2x1024 .f32) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(Φ₀ m c ∗ (dats m ρ 0 c).owesAt () t0_0.castSucc ∗ (∃ d, stg c ((dats m ρ 0 c).before (0 : Fin 1) t0_0 d)))
def bodyPost (c : Dev nD) : sProp 𝕄 :=
  iprop(Φ₁ m c ∗ (dats m ρ 0 c).owesAt () t0_0.succ ∗ stg c (outAll m))

/-- The body takes the one to the other. -/
theorem sound_body (c : Dev nD) :
    bodyPre m ρ c ⊢ wp frame (wpE (defs₀ (F := F)) 𝒱₀ (c : Thread nD τ) none) Set.univ (body (F := F)) (fun _ => bodyPost m ρ c) := by
  rw [body_eq]
  simp only [wp_deviceId]
  unfold bodyPre Dat.owesAt Pipeline.owesWithin
  rw [show (dats m ρ 0 c).owed t0_0.castSucc = O₀ c from rfl]
  iintro ⟨HΦ, ⟨%W, %hW, HO⟩, ⟨%d, %f, %hf, Ho⟩⟩
  iapply (sound_line m c fun _ => bodyPost m ρ c)
  isplitl [HΦ]; · iexact HΦ
  isplitl [HO]; · unfold owesE; iexists W; iexact HO
  isplitl [Ho]; · unfold oPts; iexists f; iexact Ho
  unfold bodyPost Dat.owesAt Pipeline.owesWithin owesE oPts
  rw [show (dats m ρ 0 c).owed t0_0.succ = 0 from rfl]
  iintro ⟨HΦ, ⟨%W', HO⟩, Ho⟩
  isplitl [HΦ]; · iexact HΦ
  isplitl [HO]
  · iexists W'
    isplitr; · ipureintro; exact fun _ _ => Or.inl trivial
    iexact HO
  iexists _; isplitr; · (ipureintro; rfl)
  iexact Ho

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

end Cert.KernelIdeal.Red
-- ==== Proof.Ghost.lean ====
module

public import proofs.«01_k».proof.Proof.Body

@[expose] public section

noncomputable section

/-! The launch's ghost state: the cells and tokens minted, dealt to the devices, and the cells' invariants opened. -/

namespace Cert.KernelIdeal.Red

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Cells and tokens -/

theorem csem_injective : Function.Injective csem := by decide

theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All devices' cells. -/
def allCells : Finset (GSem nD τ sig) := Finset.univ.map ⟨kcell, kcell_injective⟩

/-- The duties of a device's cells: for each device, its signal to the barrier, and its transfers out and in. -/
abbrev tokOf (x : Dev nD × Fin 4 × Fin 3) : GSem nD τ sig × ℕ × Fin 4 :=
  match x.2.2 with
  | 0 => (barCell x.1, 0, x.2.1)
  | 1 => (sndCell x.1 x.2.1, 0, 0)
  | 2 => (rcvCell x.1 x.2.1, 0, 0)

theorem tok_injective (b b' : Fin 4) (k k' : Fin 3) :
    (match k with | 0 => ((.reg barS : SemLoc sig), b) | 1 => (.dma (sndS b), 0) | 2 => (.dma (rcvS b), 0))
      = (match k' with | 0 => ((.reg barS : SemLoc sig), b') | 1 => (.dma (sndS b'), 0) | 2 => (.dma (rcvS b'), (0 : Fin 4))) →
    b = b' ∧ k = k' := by
  revert b b' k k'; decide

theorem tokOf_injective : Function.Injective (tokOf : Dev nD × Fin 4 × Fin 3 → GSem nD τ sig × ℕ × Fin 4) := by
  rintro ⟨c, b, k⟩ ⟨c', b', k'⟩ h
  have h1 : c = c' := by
    have := congrArg (fun x : GSem nD τ sig × ℕ × Fin 4 => x.1.1.1) h
    fin_cases k <;> fin_cases k' <;> exact this
  have h2 := tok_injective b b' k k' (by
    have := congrArg (fun x : GSem nD τ sig × ℕ × Fin 4 => (x.1.2, x.2.2)) h
    fin_cases k <;> fin_cases k' <;> exact this)
  rw [h1, h2.1, h2.2]

def allToks : Finset (GSem nD τ sig × ℕ × Fin 4) := Finset.univ.map ⟨tokOf, tokOf_injective⟩

/-- The launch's element: the pipeline's, the cells' and tokens', and nothing for the local copies. -/
def u₀ : UU :=
  (initOf (Pipeline.cells cfgs cellOf_inj) (Pipeline.launchToks cfgs cellOf_inj), (initOf allCells allToks, 1))

/-- The tokens of device `c`'s own cells. -/
def toks (c : Dev nD) : sProp 𝕄 :=
  iprop((bigSep Finset.univ fun b : Fin 4 => dutyTok ER (barCell c) 0 b)
    ∗ (bigSep Finset.univ fun b : Fin 4 => dutyTok ER (sndCell c b) 0 0)
    ∗ bigSep Finset.univ fun b : Fin 4 => dutyTok ER (rcvCell c b) 0 0)

/-- What the launch element gives device `c`; -/
def G (c : Dev nD) : sProp 𝕄 :=
  iprop((bigSep Finset.univ fun k : Fin 9 => roundState ER (sched m) (kcell (c, k)) 0)
    ∗ (bigSep Finset.univ fun k : Fin 9 => iprop(atPos ER (kcell (c, k)) 0 ∅ 0 ∗ reached ER (kcell (c, k)) 0)) ∗ toks c)

/-- and what is made of it together with the semaphores. -/
def G' (c : Dev nD) : sProp 𝕄 := iprop((∃ K, records m K ∗ linear c) ∗ cpZero c)

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A device's nine cells, one by one. -/
theorem nine_eq (c : Dev nD) (Ψ : GSem nD τ sig → sProp 𝕄) :
    (bigSep Finset.univ fun k : Fin 9 => Ψ (kcell (c, k)))
      = iprop(Ψ (barCell c) ∗ Ψ (sndCell c 0) ∗ Ψ (sndCell c 1) ∗ Ψ (sndCell c 2) ∗ Ψ (sndCell c 3)
          ∗ Ψ (rcvCell c 0) ∗ Ψ (rcvCell c 1) ∗ Ψ (rcvCell c 2) ∗ Ψ (rcvCell c 3)) :=
  bigSep_univ_eq_bigSepL [0, 1, 2, 3, 4, 5, 6, 7, 8] (by decide) (by decide) _

/-- Over a device's nine cells: its barrier, its send and its receive semaphores. -/
theorem nine_out (c : Dev nD) (Ψ : GSem nD τ sig → sProp 𝕄) :
    (bigSep Finset.univ fun k : Fin 9 => Ψ (kcell (c, k)))
      ⊣⊢ iprop(Ψ (barCell c) ∗ (bigSep Finset.univ fun j : Fin 4 => Ψ (sndCell c j)) ∗ bigSep Finset.univ fun j : Fin 4 => Ψ (rcvCell c j)) := by
  rw [nine_eq, bigSep_fin4, bigSep_fin4]
  constructor
  · iintro ⟨H0, H1, H2, H3, H4, H5⟩
    isplitl [H0]; · iexact H0
    isplitl [H1 H2 H3 H4]
    · isplitl [H1]; · iexact H1
      isplitl [H2]; · iexact H2
      isplitl [H3]; · iexact H3
      iexact H4
    iexact H5
  · iintro ⟨H0, ⟨H1, H2, H3, H4⟩, H5⟩
    isplitl [H0]; · iexact H0
    isplitl [H1]; · iexact H1
    isplitl [H2]; · iexact H2
    isplitl [H3]; · iexact H3
    isplitl [H4]; · iexact H4
    iexact H5

theorem fund_cells : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_prod, ← bigSep_sep', ← bigSep_sep']
    exact bigSep_congr fun b _ => by rw [bigSep_fin3]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: the copies' two, the four send and the four receive semaphores. -/
abbrev osem (k : Fin 10) : SemLoc sig := .dma (⟨1 + k.val, by omega⟩ : Fin 11)

theorem ownSems0_eq (c : Dev nD) :
    (Pipeline.ownSems0 (Ix := Unit) (Name := ℕ) (U := UU) (Lvl := ℕ) (Val := Elt F) (τ := τ) osem c : sProp 𝕄)
      ⊣⊢ iprop(cpZero c ∗ dmaZero c) := by
  have h : (Pipeline.ownSems0 (Ix := Unit) (Name := ℕ) (U := UU) (Lvl := ℕ) (Val := Elt F) (τ := τ) osem c : sProp 𝕄)
      = iprop(semVal (cpCell c 0) 0 ∗ semVal (cpCell c 1) 0 ∗ semVal (sndCell c 0) 0 ∗ semVal (sndCell c 1) 0 ∗ semVal (sndCell c 2) 0
          ∗ semVal (sndCell c 3) 0 ∗ semVal (rcvCell c 0) 0 ∗ semVal (rcvCell c 1) 0 ∗ semVal (rcvCell c 2) 0 ∗ semVal (rcvCell c 3) 0) :=
    Pipeline.ownSems0_eq_of_list c osem [0, 1, 2, 3, 4, 5, 6, 7, 8, 9] (by decide) (by decide)
  rw [h]
  unfold cpZero dmaZero
  rw [bigSep_fin4, bigSep_fin4]
  constructor
  · iintro ⟨H0, H1, H2, H3, H4, H5, H6⟩
    isplitl [H0 H1]
    · isplitl [H0] <;> iassumption
    isplitl [H2 H3 H4 H5]
    · isplitl [H2]; · iexact H2
      isplitl [H3]; · iexact H3
      isplitl [H4]; · iexact H4
      iexact H5
    iexact H6
  · iintro ⟨⟨H0, H1⟩, ⟨H2, H3, H4, H5⟩, H6⟩
    isplitl [H0]; · iexact H0
    isplitl [H1]; · iexact H1
    isplitl [H2]; · iexact H2
    isplitl [H3]; · iexact H3
    isplitl [H4]; · iexact H4
    isplitl [H5]; · iexact H5
    iexact H6

/-- The barrier semaphore is the one that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's cells opened. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ cpZero c) := by
  unfold G
  iintro ⟨Hos, Hus, Hst, Hat, Htok⟩
  ihave Hos := (ownSems0_eq (F := F) c).1 $$ Hos
  unfold dmaZero
  icases Hos with ⟨Hcp, HS, HV⟩
  ihave Hus := (Entails.of_eq (unscopedSems0_eq (F := F) c)) $$ Hus
  ihave Hv := (nine_out (F := F) c fun g => semVal g 0).2 $$ [Hus HS HV]
  · isplitl [Hus]; · iexact Hus
    isplitl [HS] <;> iassumption
  imod (show iprop((bigSep Finset.univ fun k : Fin 9 => semVal (kcell (c, k)) 0) ∗ bigSep Finset.univ fun k : Fin 9 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## All devices together -/

/-- A family over pairs of devices, the other way round. -/
theorem bigSep_swap4 (Φ : Fin 4 → Fin 4 → sProp 𝕄) :
    (bigSep Finset.univ fun a : Fin 4 => bigSep Finset.univ fun b : Fin 4 => Φ a b)
      = bigSep Finset.univ fun b : Fin 4 => bigSep Finset.univ fun a : Fin 4 => Φ a b := by
  rw [← bigSep_univ_prod (fun x : Fin 4 × Fin 4 => Φ x.1 x.2), ← bigSep_univ_prod (fun x : Fin 4 × Fin 4 => Φ x.2 x.1),
    bigSep_univ_equiv (Equiv.prodComm (Fin 4) (Fin 4)) (fun x : Fin 4 × Fin 4 => Φ x.1 x.2)]
  rfl

/-- The tokens of the duties a device pays. -/
def payToks (c : Dev nD) : sProp 𝕄 :=
  iprop((bigSep Finset.univ fun p : Fin 4 => dutyTok ER (barCell p) 0 c) ∗ bigSep Finset.univ fun p : Fin 4 => sendToks c p)

/-- Each cell's tokens go to the devices that pay them. -/
theorem toks_around : (bigSep Finset.univ fun c : Dev nD => (toks c : sProp 𝕄)) ⊢ bigSep Finset.univ fun c : Dev nD => payToks c := by
  unfold toks payToks sendToks
  simp only [bigSep_sep']
  iintro ⟨H1, H2, H3⟩
  ihave H1 := (Entails.of_eq (bigSep_swap4 (F := F) fun a b => dutyTok ER (barCell a) 0 b)) $$ H1
  ihave H3 := (Entails.of_eq (bigSep_swap4 (F := F) fun a b => dutyTok ER (rcvCell a b) 0 0)) $$ H3
  isplitl [H1]; · iexact H1
  isplitl [H2] <;> iassumption

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- One device's share, from the records, its positions, its tokens and its copies' semaphores. -/
theorem share_intro (K : Dev nD × Fin 9 → ℕ) (c : Dev nD) :
    iprop(records m K ∗ ((bigSep Finset.univ fun k : Fin 9 => atPos ER (kcell (c, k)) 0 ∅ 0) ∗ payToks c) ∗ cpZero c) ⊢ G' m c := by
  unfold payToks G' linear
  iintro ⟨#HR, ⟨Hat, Htk⟩, Hcp⟩
  ihave Hat := (nine_out (F := F) c fun g => atPos ER g 0 ∅ 0).1 $$ Hat
  isplitl [Hat Htk]
  · iexists K
    isplitr; · iexact HR
    isplitl [Hat] <;> iassumption
  iexact Hcp

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ cpZero c) : sProp 𝕄)
      ⊢ bigSep Finset.univ (G' m) := by
  rw [bigSep_sep', bigSep_sep', bigSep_sep', ← bigSep_univ_prod (fun ck : Dev nD × Fin 9 => iprop(∃ κ : ℕ, cellInv ER (sched m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, Hcp⟩
  ihave HK := (BI.bigSep_exists_pi Finset.univ (fun (ck : Dev nD × Fin 9) (κ : ℕ) => (cellInv ER (sched m) κ (kcell ck) : sProp 𝕄))) $$ HI
  icases HK with ⟨%K, #HI⟩
  ihave Htk := (toks_around (F := F)) $$ Htok
  iapply (bigSep_with_persistent (R := records m K) fun c _ => share_intro m K c)
  isplitr
  · unfold records; isplitl; · iexact HI
    iexact HR
  rw [bigSep_sep', bigSep_sep']
  isplitl [Hat Htk]
  · isplitl [Hat] <;> iassumption
  iexact Hcp

/-- The global step: every device's semaphores at once. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

end Cert.KernelIdeal.Red
-- ==== Proof.Launch.lean ====
module

public import proofs.«01_k».proof.Proof.Ghost
public import Idealize.ShloMosaic.Lib.Pipeline.CollectiveSegs

@[expose] public section

noncomputable section

/-! The launch: what is owed over all devices, and the run of the whole program. -/

namespace Cert.KernelIdeal.Red

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What is owed -/

theorem bar_eq_iff {a b : Dev nD} : barCell a = barCell b ↔ a = b :=
  ⟨fun h => congrArg (fun g : GSem nD τ sig => g.1.1) h, fun h => h ▸ rfl⟩
theorem rcvS_inj {j q : Fin 4} (h : (SemLoc.dma (rcvS j) : SemLoc sig) = .dma (rcvS q)) : j = q := by
  revert h; revert j q; decide
theorem rcv_eq_iff {c p : Dev nD} {j q : Fin 4} : rcvCell c j = rcvCell p q ↔ c = p ∧ j = q :=
  ⟨fun h => ⟨congrArg (fun g : GSem nD τ sig => g.1.1) h, rcvS_inj (congrArg Prod.snd h)⟩, fun h => by rw [h.1, h.2]⟩
theorem bar_ne_rcv {c p : Dev nD} {j : Fin 4} : barCell c ≠ rcvCell p j := fun h => by
  have := congrArg Prod.snd h
  cases this

theorem tally_bb (a b : Dev nD) : tallyAt (barCell a) () 1 (barCell b) () = if b = a then 1 else 0 := by
  rw [tallyAt_apply]; exact if_congr ⟨fun h => bar_eq_iff.mp h.1, fun h => ⟨bar_eq_iff.mpr h, rfl⟩⟩ rfl rfl
theorem tally_rr (p c : Dev nD) (q j : Fin 4) :
    tallyAt (rcvCell p q) () N (rcvCell c j) () = if c = p ∧ j = q then N else 0 := by
  rw [tallyAt_apply]; exact if_congr ⟨fun h => rcv_eq_iff.mp h.1, fun h => ⟨rcv_eq_iff.mpr h, rfl⟩⟩ rfl rfl
theorem tally_rb (p c : Dev nD) (q : Fin 4) : tallyAt (rcvCell p q) () N (barCell c) () = 0 := by
  rw [tallyAt_apply]; exact if_neg fun h => bar_ne_rcv h.1
theorem tally_br (a c : Dev nD) (j : Fin 4) : tallyAt (barCell a) () 1 (rcvCell c j) () = 0 := by
  rw [tallyAt_apply]; exact if_neg fun h => bar_ne_rcv h.1.symm

/-- Device `d` owes every other device's barrier a unit. -/
theorem owed_bar (d c : Dev nD) : O₀ d (barCell c) () = if d = c then 0 else 1 := by
  unfold O₀ owe5 owe4 owe3 owe2 owe1
  simp only [Pi.add_apply, Finsupp.add_apply, tally_bb, tally_rb]
  revert d c; decide

/-- Device `d` owes every other device the receipt of its partial sums. -/
theorem owed_rcv (d c : Dev nD) (j : Fin 4) : O₀ d (rcvCell c j) () = if d = j then (if j = c then 0 else N) else 0 := by
  unfold O₀ owe5 owe4 owe3 owe2 owe1
  simp only [Pi.add_apply, Finsupp.add_apply, tally_br, Nat.add_zero]
  rw [tally_rr, tally_rr, tally_rr]
  have h : ∀ d c : Fin 4, (d = c ∧ ∀ i : Fin 3, c ≠ oth d i) ∨ (d ≠ c ∧ ∃ i : Fin 3, ∀ i' : Fin 3, c = oth d i' ↔ i' = i) := by decide
  by_cases hj : d = j
  · subst hj
    rw [if_pos rfl]
    rcases h d c with ⟨h1, h2⟩ | ⟨h1, i, h2⟩
    · rw [if_pos h1, if_neg (fun h => h2 2 h.1), if_neg (fun h => h2 1 h.1), if_neg (fun h => h2 0 h.1)]
    · rw [if_neg h1]
      simp only [h2, _root_.and_true]
      fin_cases i <;> simp
  · rw [if_neg hj, if_neg (fun h => hj h.2.symm), if_neg (fun h => hj h.2.symm), if_neg (fun h => hj h.2.symm)]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_rcv (c : Dev nD) {j : Fin 4} (h : j ≠ c) :
    tallyOn (rcvCell c j) (launchCredit (Pipeline.owing O₀) 0 (rcvCell c j)) = (tallyAt (rcvCell c j) () N : CellTallies nD τ sig Unit) := by
  unfold tallyAt; refine congrArg _ (Finsupp.ext fun u => ?_); cases u
  rw [Pipeline.launchCredit_owing, Finsupp.single_eq_same, Finset.sum_congr rfl fun d _ => owed_rcv d c j,
    Finset.sum_ite_eq' Finset.univ j fun _ => if j = c then 0 else N, if_pos (Finset.mem_univ _), if_neg h]

/-- The semaphores a device is owed on. -/
abbrev owedSems (c : Dev nD) : List (SemLoc sig) := [.reg barS, .dma (rcvS (oth c 0)), .dma (rcvS (oth c 1)), .dma (rcvS (oth c 2))]

theorem creds (c : Dev nD) : (Pipeline.launchCred O₀ c : sProp 𝕄) ⊢ credits c := by
  have h : bigSep (owedSems c).toFinset (fun sm => (cred (tallyOn ((c : Thread nD τ), sm) (launchCredit (Pipeline.owing O₀) 0 ((c : Thread nD τ), sm))) : sProp 𝕄))
      = credits c := by
    unfold credits
    rw [bigSep_eq_bigSepL_of_eq (owedSems c) rfl (by revert c; decide), ← launch_bar, ← launch_rcv c (oth_ne c 0), ← launch_rcv c (oth_ne c 1),
      ← launch_rcv c (oth_ne c 2)]
    rfl
  unfold Pipeline.launchCred
  rw [← h]
  exact BI.bigSep_subset (Finset.subset_univ (owedSems c).toFinset)

/-! ## The launch's side conditions -/

theorem ownSemFacts : Pipeline.OwnSemFacts cfg0.spec osem := by decide

theorem share_eq (c : Dev nD) (w : Fin cfg0.W) : (dats m ρ 0 c).share w = fullShare := by unfold Dat.share; split <;> rfl

/-- What a device holds at the end: its barrier at zero and its inputs. -/
def leftOver (c : Dev nD) : sProp 𝕄 := iprop(unscopedSems0 c ∗ inputs m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ inPts m c main_arg2) := by
  rw [Pipeline.unscopedRestP_none, unscopedRest0_eq]
  unfold start G' inputs inPts
  iintro ⟨⟨H0, H1, H2⟩, Hlev, Hcr, -, ⟨HG, Hcp⟩⟩
  ihave Hc := (creds (F := F) c) $$ Hcr
  imodintro
  isplitr [H2]
  · isplitl [HG]; · iexact HG
    isplitl [Hcp]; · iexact Hcp
    isplitl [Hc]; · iexact Hc
    isplitl [Hlev]; · iexact Hlev
    isplitl [H0] <;> iassumption
  iexact H2

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch pPts gPts xPts yPts
  iintro ⟨Hs, -, Hr⟩
  isplitl [Hs] <;> iassumption

theorem phi1_exit (c : Dev nD) :
    (dats m ρ 0 c).Φ (Fin.last cfg0.N) ⊢ iprop(leftOver m c ∗ Pipeline.ownSems0 osem c ∗ Pipeline.scopedRest cfg0.spec c) := by
  rw [show (dats m ρ 0 c).Φ (Fin.last cfg0.N) = Φ₁ m c from rfl, scopedRest0_eq]
  unfold leftOver
  rw [unscopedSems0_eq]
  unfold Φ₁ scratch pPts gPts xPts yPts
  iintro ⟨Hr, Hz, HzB, Hi⟩
  isplitl [HzB Hi]
  · isplitl [HzB] <;> iassumption
  isplitl [Hz]; · iapply (ownSems0_eq (F := F) c).2; iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide)
    · rw [show (dats m ρ 0 c).owed ⟨_ + 1, ht⟩ = 0 from rfl, MayWait_zero]; iintro -; iempintro

/-! ## The run -/

/-- The result array after the run. -/
theorem final_eq (c : Dev nD) : (dats m ρ 0 c).arrAt (0 : Fin 1) cfg0.N = outAll m := by
  rw [show cfg0.N = t0_0.val + 1 from rfl, (dats m ρ 0 c).arrAt_succ (0 : Fin 1) t0_0, if_pos (flush0_0 t0_0)]
  have he : ∀ i : S2x1024.Idx, ((cfg0.win (0 : Fin 1)).blk t0_0).view.emb i = i := fun i => by
    funext a
    fin_cases a
    · exact Fin.ext (show 0 * 2 + 1 * (i (0 : Fin 2)).val = (i (0 : Fin 2)).val by omega)
    · exact Fin.ext (show 0 * 1024 + 1 * (i (1 : Fin 2)).val = (i (1 : Fin 2)).val by omega)
  funext i
  conv_lhs => rw [← he i]
  exact View.write_emb_of_mem (v := ((cfg0.win (0 : Fin 1)).blk t0_0).view) _ _ (Finset.mem_univ _)

/-- The inputs unchanged on device `c`. -/
def Kept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

/-- Reading the end: the inputs as they were, the barrier at zero. -/
theorem read_end (c : Dev nD) (s' : Phys nD τ sig (Elt F)) :
    iprop(leftOver m c ∗ inPts m c main_arg2 ∗ SI s')
      ⊢ |={Set.univ}=> iprop(⌜Kept m c s'.mem ∧ ∀ sm : SemLoc sig, sm.isScoped .tc = false → s'.mem.sem ((c.tc : Thread nD τ), sm) = 0⌝ ∗ (SI s' : sProp 𝕄)) := by
  unfold leftOver inputs inPts
  iintro ⟨⟨Hu, H0, H1⟩, H2, HSI⟩
  icombine HSI H0 gives %h0
  icombine HSI H1 gives %h1
  icombine HSI H2 gives %h2
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ h0, Buf.eq_of_forall_mem_univ h1, Buf.eq_of_forall_mem_univ h2⟩, hs⟩
  iexact HSI

set_option maxRecDepth 8000 in
/-- From any memory with zero counters every weakly fair execution of the program on the four devices ends, with the
    result on every device at the computed contents, the inputs unchanged and every counter at zero. -/
theorem run_main : θ_run defs (onTc (τ := τ) (main (F := F))) (s₀ m ρ)
    (fun r => (∀ c : Dev nD, r.2.mem ((c : Thread nD τ).loc main_v1) = outAll m ∧ Kept m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb (F := embR) _ _) $$ HX
      icases HX with ⟨HX, -⟩
      imod (fund_cells m) $$ HX with HG
      imodintro
      isplitl [HP] <;> iassumption)
    (hglob := glob m)
    (hA := fun _ _ => rfl) (hpf := fun _ k => k.elim0)
    (X := start m) (Y := leftOver m) (Z := fun c => inPts m c main_arg2)
    (hX := start_intro m ρ) (hin := phi0_intro m ρ) (hout := phi1_exit m ρ)
    (QY := fun c s => Kept m c s ∧ ∀ sm : SemLoc sig, sm.isScoped .tc = false → s.sem ((c.tc : Thread nD τ), sm) = 0)
    (hY := read_end m)
    (hQ := fun _ h hs => ⟨fun c => ⟨((h c).1 (0 : Fin 1)).trans (final_eq m ρ c), (h c).2.2.1⟩, sem_eq_zero hs fun c => (h c).2.2.2⟩)

end Cert.KernelIdeal.Red
-- ==== Proof.Frames.lean ====
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

/-! Every program runs to an end, its arguments unchanged and every semaphore counter back at zero. -/

namespace Cert.KernelIdeal.Red

open Idealize.ShloMosaic Idealize.ShloMosaic.TcCoe
open Idealize.SL Idealize.SL.Sem
open Cert.KernelIdeal Cert.KernelIdeal.Gen

variable {F : FTy → Type} [FloatOps F]

/-- The kernel over any float values. -/
theorem frame_any (m : (ℓ : Loc nD τ sig) → Buf (Elt F) ℓ) (ρ : Dev nD → PrngReg) :
    θ_run defs (onTc (τ := τ) (main (F := F))) (s₀ m ρ) (fun r => (∀ c, Kept m c r.2) ∧ r.2.sem = fun _ => 0) :=
  (θ_run defs _ _).mono (fun _ h => ⟨fun c => (h.1 c).2, h.2⟩) (run_main m ρ)

set_option smartUnfolding false in
/-- The kernel over the machine's own float values. -/
theorem frame_kernel : Cert.quiescent_Kernel (hKernel := Cert.Kernel.Gen.facts) := fun m ρ _ => frame_any (F := Bits) m ρ

/-- The kernel over the extended reals. -/
theorem frame_ideal : Cert.quiescent_KernelIdeal (hKernelIdeal := Cert.KernelIdeal.Gen.facts) := fun m ρ _ => frame_any (F := Ideal) m ρ

/-- The reference over the extended reals. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

end Cert.KernelIdeal.Red

end
-- ==== Proof.Norm.lean ====
module

public import Idealize.ShloMosaic.Lib.Pointwise

@[expose] public section

noncomputable section

/-! The normalised rows over the extended reals, in the kernel's and in the reference's form. -/

namespace Cert.Norm

open Idealize.ShloMosaic

/-- The length of a row, and the small number added to the variance, as the programs write them. -/
abbrev len : EReal := Ideal.ofBits .f32 0x44800000#32
abbrev eps : EReal := Ideal.ofBits .f32 0x3727C5AC#32

/-- The mean of a row, the distance from it, and the variance plus the small number. -/
def mean (f : Fin 1024 → EReal) : EReal := Ideal.div (∑ k, f k) len
def dist (f : Fin 1024 → EReal) (k : Fin 1024) : EReal := f k - mean f
def spread (f : Fin 1024 → EReal) : EReal := Ideal.div (∑ k, dist f k * dist f k) len + eps

/-- The normalised row. -/
def xhat (f : Fin 1024 → EReal) (l : Fin 1024) : EReal := dist f l * Ideal.rsqrt (spread f)

theorem len_eq : len = ((1024 : ℝ) : EReal) := by
  simp [len, Ideal.ofBits, Ideal.ieee, -EReal.coe_mul]; norm_num

theorem len_pos : 0 < len := by
  rw [len_eq]
  exact EReal.coe_pos.mpr (by norm_num)

theorem eps_eq : eps = ((10995116 / 2 ^ 40 : ℝ) : EReal) := by
  simp [eps, Ideal.ofBits, Ideal.ieee, -EReal.coe_mul]; norm_num

theorem eps_nonneg : 0 ≤ eps := by
  rw [eps_eq]
  exact EReal.coe_nonneg.mpr (by positivity)

/-- A square is not negative. -/
theorem square_nonneg (x : EReal) : 0 ≤ x * x := by
  induction x with
  | bot => simp
  | top => simp
  | coe r => exact_mod_cast mul_self_nonneg r

/-- The variance plus the small number is not negative, whatever the row holds. -/
theorem spread_nonneg (f : Fin 1024 → EReal) : 0 ≤ spread f := by
  unfold spread
  refine add_nonneg ?_ eps_nonneg
  rw [len_eq, Ideal.div, if_neg (by norm_num)]
  refine mul_nonneg (Finset.sum_nonneg fun k _ => square_nonneg _) ?_
  exact EReal.inv_nonneg_of_nonneg (by norm_num)

/-- Off the negative numbers, one over the root is the reciprocal root. -/
theorem one_div_sqrt (x : EReal) (h : 0 ≤ x) : Ideal.div 1 (Ideal.sqrt x) = Ideal.rsqrt x := by
  induction x with
  | bot => simp at h
  | top => simp [Ideal.div]
  | coe r =>
    have hr : 0 ≤ r := by exact_mod_cast h
    rw [Ideal.sqrt_coe, Ideal.rsqrt_coe, if_neg (not_lt.mpr hr), if_neg (not_lt.mpr hr)]
    by_cases h0 : r = 0
    · subst h0; simp [Ideal.div]
    · have hs : Real.sqrt r ≠ 0 := (Real.sqrt_pos.mpr (lt_of_le_of_ne hr (Ne.symm h0))).ne'
      rw [if_neg h0, Ideal.div, if_neg (by exact_mod_cast hs), one_mul, EReal.coe_inv]

/-- The reference's form of the normalised row is the same. -/
theorem xhat_eq (f : Fin 1024 → EReal) (l : Fin 1024) :
    dist f l * Ideal.div 1 (Ideal.sqrt (spread f)) = xhat f l := by
  rw [one_div_sqrt _ (spread_nonneg f), xhat]

end Cert.Norm

end
-- ==== Proof.Sums.lean ====
module

public import proofs.«01_k».proof.Proof.Contents
public import proofs.«01_k».proof.Proof.Norm
public import proofs.«01_k».proof.Proof.Gen.ReferenceIdeal

@[expose] public section

noncomputable section

/-! The column sums at an index: those of one device's rows in the kernel, and those of all rows in the reference. -/

namespace Cert.KernelIdeal.Red

open Idealize.ShloMosaic
open Cert.KernelIdeal Cert.KernelIdeal.Gen Cert.Norm

/-- The first partial sum of a device at a column: the sum over its rows of the second input times the normalised first. -/
theorem pay_first (x y : Vec Ideal S512x1024 .f32) (l : Fin 1024) :
    k0_pay6 x y (ix2 0 l) = ∑ r : Fin 512, y (ix2 r l) * xhat (fun k => x (ix2 r k)) l := by
  pointwise [k0_pay6]
  rfl

/-- The second: the sum over its rows of the second input. -/
theorem pay_second (y : Vec Ideal S512x1024 .f32) (l : Fin 1024) :
    k0_pay7 y (ix2 0 l) = ∑ r : Fin 512, y (ix2 r l) := by
  pointwise [k0_pay7]

end Cert.KernelIdeal.Red

namespace Cert.ReferenceIdeal.Value

open Idealize.ShloMosaic
open Cert.ReferenceIdeal Cert.ReferenceIdeal.Gen Cert.Norm

/-- The mean of each row of the reference's first argument, along the row. -/
def refMean (X : FVec Ideal S2048x1024 .f32) : FVec Ideal S2048x1024 .f32 :=
  broadcastInDim S2048x1024 ![0, 1] bcast_S2048x1_S2048x1024_0_1 (Host.divf (broadcastInDim S2048x1 ![0] bcast_S2048_S2048x1_0
    (Host.reduceAdd X (constant S_ .f32 0x00000000#32) reducesTo_S2048x1024_S2048_d1 h_S_))
    (broadcastInDim S2048x1 ![] bcast_S_S2048x1 (constant S_ .f32 0x44800000#32)))

/-- The reference's divisor of the variance: the row's length less zero. -/
def refLen : FVec Ideal S_ .f32 := subf (constant S_ .f32 0x44800000#32) (sitofp .f32 (constantI S_ 32 0#32))

/-- The variance of each row, guarded by the test that its divisor is positive. -/
def refVar (X : FVec Ideal S2048x1024 .f32) : FVec Ideal S2048x1 .f32 :=
  select (broadcastInDim S2048x1 ![] bcast_S_S2048x1 (cmpf .ogt refLen (constant S_ .f32 0x00000000#32)))
    (Host.divf (broadcastInDim S2048x1 ![0] bcast_S2048_S2048x1_0
      (Host.reduceAdd (mulf (subf X (refMean X)) (subf X (refMean X))) (constant S_ .f32 0x00000000#32)
        reducesTo_S2048x1024_S2048_d1 h_S_)) (broadcastInDim S2048x1 ![] bcast_S_S2048x1 refLen))
    (broadcastInDim S2048x1 ![] bcast_S_S2048x1 (id (constant S_ .f32 0x7FC00000#32)))

/-- The normalised rows of the reference. -/
def refHat (X : FVec Ideal S2048x1024 .f32) : FVec Ideal S2048x1024 .f32 :=
  mulf (subf X (refMean X)) (broadcastInDim S2048x1024 ![0, 1] bcast_S2048x1_S2048x1024_0_1
    (Host.divf (broadcastInDim S2048x1 ![] bcast_S_S2048x1 (constant S_ .f32 0x3F800000#32))
      (Host.sqrt (addf (refVar X) (broadcastInDim S2048x1 ![] bcast_S_S2048x1 (constant S_ .f32 0x3727C5AC#32))))))

/-- The column sums of a whole array, as a row. -/
def refSum (Z : FVec Ideal S2048x1024 .f32) : FVec Ideal S1x1024 .f32 :=
  broadcastInDim S1x1024 ![1] bcast_S1024_S1x1024_1 (Host.reduceAdd Z (constant S_ .f32 0x00000000#32) reducesTo_S2048x1024_S1024_d0 h_S_)

/-- The reference's result. -/
def refOut (X Y : FVec Ideal S2048x1024 .f32) : FVec Ideal S2x1024 .f32 :=
  concatenate S2x1024 0 [⟨S1x1024, refSum (mulf Y (refHat X))⟩, ⟨S1x1024, refSum Y⟩] concatenates_S1x1024_S1x1024_S2x1024_d0

theorem refMean_at (X : FVec Ideal S2048x1024 .f32) (r : Fin 2048) (k : Fin 1024) :
    refMean X (ix2 r k) = mean (fun k => X (ix2 r k)) := by
  pointwise [refMean]
  rfl

theorem refLen_at (i : S_.Idx) : refLen i = len := by
  pointwise [refLen]
  show len - ((((0#32 : BitVec 32).toInt : ℝ)) : EReal) = len
  simp

theorem refVar_at (X : FVec Ideal S2048x1024 .f32) (r : Fin 2048) :
    refVar X (ix2 r 0) + eps = spread (fun k => X (ix2 r k)) := by
  pointwise [refVar]
  simp only [refMean_at, refLen_at]
  rw [if_pos len_pos]
  rfl

theorem refHat_at (X : FVec Ideal S2048x1024 .f32) (r : Fin 2048) (l : Fin 1024) :
    refHat X (ix2 r l) = xhat (fun k => X (ix2 r k)) l := by
  rw [← xhat_eq, ← refVar_at]
  pointwise [refHat]
  simp only [refMean_at]
  rfl

theorem refSum_at (Z : FVec Ideal S2048x1024 .f32) (l : Fin 1024) :
    refSum Z (ix2 0 l) = ∑ r : Fin 2048, Z (ix2 r l) := by
  pointwise [refSum]

/-- The first row of the reference's result: the column sums of the second argument times the normalised first. -/
theorem refOut_first (X Y : FVec Ideal S2048x1024 .f32) (l : Fin 1024) :
    refOut X Y (ix2 0 l) = ∑ r : Fin 2048, Y (ix2 r l) * xhat (fun k => X (ix2 r k)) l := by
  have h : refOut X Y (ix2 0 l) = refSum (mulf Y (refHat X)) (ix2 0 l) := by pointwise [refOut]
  rw [h, refSum_at]
  exact Finset.sum_congr rfl fun r _ => congrArg (Y (ix2 r l) * ·) (refHat_at X r l)

/-- The second row: the column sums of the second argument. -/
theorem refOut_second (X Y : FVec Ideal S2048x1024 .f32) (l : Fin 1024) :
    refOut X Y (ix2 1 l) = ∑ r : Fin 2048, Y (ix2 r l) := by
  have h : refOut X Y (ix2 1 l) = refSum Y (ix2 0 l) := by pointwise [refOut]
  rw [h, refSum_at]

end Cert.ReferenceIdeal.Value

end
-- ==== Proof.Equation.lean ====
module

public import proofs.«01_k».proof.Proof.Sums

@[expose] public section

noncomputable section

/-! The kernel's result is the reference's: every row of the whole arrays is summed by one device, once. -/

namespace Cert.KernelIdeal.Red

open Idealize.ShloMosaic Idealize.ShloMosaic.TcCoe
open Cert.KernelIdeal Cert.KernelIdeal.Gen Cert.Norm

variable (m : (ℓ : Loc nD τ sig) → Buf (Elt Ideal) ℓ) (X Y : FVec Ideal ⟨2, ![2048, 1024]⟩ .f32)

/-- The whole array's row that is row `r` of device `c`'s copied rows. -/
def rowOf (c : Dev nD) (r : Fin 512) : Fin 2048 :=
  ⟨(c.val % 2) * 1024 + (c.val / 2) * 512 + r.val, by have h : c.val < 4 := c.isLt; have := r.isLt; omega⟩

theorem off_row (c : Dev nD) : k0_off1 c 0 = (c.val / 2) * 512 := by revert c; decide +kernel
theorem off_col (c : Dev nD) : k0_off1 c 1 = 0 := by revert c; decide +kernel
theorem block_row (c : Dev nD) : ((Layout.meshBlock [2, 2] ![[1], []] c) (0 : Fin 2)).val = c.val % 2 := by revert c; decide +kernel
theorem block_col (c : Dev nD) : ((Layout.meshBlock [2, 2] ![[1], []] c) (1 : Fin 2)).val = 0 := by revert c; decide +kernel

/-- Device `c`'s block of a whole array. -/
abbrev cut (Z : FVec Ideal ⟨2, ![2048, 1024]⟩ .f32) (c : Dev nD) : FVec Ideal S1024x1024 .f32 :=
  Layout.blockN ⟨2, ![1024, 1024]⟩ ⟨2, ![2048, 1024]⟩ (Layout.meshBlock [2, 2] ![[1], []] c) Z

/-- A device's block of a whole array, at the device's copied rows, is the whole array at their rows. -/
theorem rows_at (Z : FVec Ideal ⟨2, ![2048, 1024]⟩ .f32) (c : Dev nD) (r : Fin 512) (k : Fin 1024) :
    cut Z c ((Rect.unit (s := S1024x1024) (k0_off1 c) S512x1024.size (k0_off1_inb c)).emb (ix2 r k)) = Z (ix2 (rowOf c r) k) := by
  unfold cut
  rw [Layout.blockN_apply]
  refine congrArg Z (funext fun a => Fin.ext ?_)
  rw [Layout.TilesN.idx_val]
  fin_cases a
  · show ((Layout.meshBlock [2, 2] ![[1], []] c) (0 : Fin 2)).val * 1024 + (k0_off1 c 0 + 1 * r.val) = (rowOf c r).val
    rw [block_row, off_row]
    show _ = (c.val % 2) * 1024 + (c.val / 2) * 512 + r.val
    omega
  · show ((Layout.meshBlock [2, 2] ![[1], []] c) (1 : Fin 2)).val * 1024 + (k0_off1 c 1 + 1 * k.val) = k.val
    rw [block_col, off_col]
    omega

/-- Every device's first argument is its block of `X`, its second its block of `Y`. -/
def Cut : Prop := ∀ c : Dev nD,
  m ((c : Thread nD τ).loc main_arg0) = cut X c ∧ m ((c : Thread nD τ).loc main_arg1) = cut Y c

variable {m X Y}

theorem x_at (h : Cut m X Y) (c : Dev nD) (r : Fin 512) (k : Fin 1024) : xAt m c (ix2 r k) = X (ix2 (rowOf c r) k) := by
  refine Eq.trans ?_ (rows_at X c r k)
  rw [← (h c).1]
  rfl
theorem y_at (h : Cut m X Y) (c : Dev nD) (r : Fin 512) (k : Fin 1024) : yAt m c (ix2 r k) = Y (ix2 (rowOf c r) k) := by
  refine Eq.trans ?_ (rows_at Y c r k)
  rw [← (h c).2]
  rfl

theorem rowIdx_eq (l : Fin 1024) : rowIdx l = ix2 (0 : Fin 1) l := by
  funext a
  fin_cases a <;> rfl

theorem stack_first (u v : Vec Ideal S1x1024 .f32) (l : Fin 1024) : stack u v (ix2 0 l) = u (rowIdx l) := by
  unfold stack
  exact if_pos rfl
theorem stack_second (u v : Vec Ideal S1x1024 .f32) (l : Fin 1024) : stack u v (ix2 1 l) = v (rowIdx l) := by
  unfold stack
  exact if_neg (show ¬ (1 : ℕ) = 0 by omega)

/-- A device's partial sums, from the whole arrays. -/
theorem part_first (h : Cut m X Y) (c : Dev nD) (l : Fin 1024) :
    partAt m c (ix2 0 l) = ∑ r : Fin 512, Y (ix2 (rowOf c r) l) * xhat (fun k => X (ix2 (rowOf c r) k)) l := by
  have hs : partAt m c (ix2 0 l) = k0_pay6 (xAt m c) (yAt m c) (rowIdx l) := stack_first _ _ l
  rw [hs, rowIdx_eq, pay_first]
  simp only [x_at h, y_at h]
theorem part_second (h : Cut m X Y) (c : Dev nD) (l : Fin 1024) :
    partAt m c (ix2 1 l) = ∑ r : Fin 512, Y (ix2 (rowOf c r) l) := by
  have hs : partAt m c (ix2 1 l) = k0_pay7 (yAt m c) (rowIdx l) := stack_second _ _ l
  rw [hs, rowIdx_eq, pay_second]
  simp only [y_at h]

/-- The result at an index is the sum of the four devices' partial sums there. -/
theorem out_at (i : S2x1024.Idx) : outAll m i = (partAt m 0 i + partAt m 1 i) + (partAt m 2 i + partAt m 3 i) := by
  have hc (j : Fin 4) : shapeCast S2x1024 (slotVal m j) shapeCasts_S1x2x1024_S2x1024 i = partAt m j i :=
    (shapeCast_dropUnit_apply ![2, 1024] (slotVal m j) _ i).trans (slotVal_one m j i)
  rw [← hc 0, ← hc 1, ← hc 2, ← hc 3]
  rfl

/-- A sum over all rows is the four devices' sums over theirs. -/
theorem sum_rows (f : Fin 2048 → EReal) :
    ((∑ r, f (rowOf 0 r)) + ∑ r, f (rowOf 1 r)) + ((∑ r, f (rowOf 2 r)) + ∑ r, f (rowOf 3 r)) = ∑ r, f r := by
  rw [Fin.sum_univ_tiles 4 512 (by norm_num) f, Fin.sum_univ_four, add_add_add_comm, ← add_assoc]
  rfl

/-- The two rows of the kernel's result, from the whole arrays. -/
theorem out_first (h : Cut m X Y) (l : Fin 1024) : outAll m (ix2 0 l) = ∑ r : Fin 2048, Y (ix2 r l) * xhat (fun k => X (ix2 r k)) l := by
  rw [out_at, part_first h, part_first h, part_first h, part_first h]
  exact sum_rows fun r => Y (ix2 r l) * xhat (fun k => X (ix2 r k)) l
theorem out_second (h : Cut m X Y) (l : Fin 1024) : outAll m (ix2 1 l) = ∑ r : Fin 2048, Y (ix2 r l) := by
  rw [out_at, part_second h, part_second h, part_second h, part_second h]
  exact sum_rows fun r => Y (ix2 r l)

/-- The kernel's result is the reference's result on the whole arrays. -/
theorem out_eq (h : Cut m X Y) : outAll m = Cert.ReferenceIdeal.Value.refOut X Y := by
  have key (b : Fin 2) (l : Fin 1024) : outAll m (ix2 b l) = Cert.ReferenceIdeal.Value.refOut X Y (ix2 b l) := by
    fin_cases b
    · exact (out_first h l).trans (Cert.ReferenceIdeal.Value.refOut_first X Y l).symm
    · exact (out_second h l).trans (Cert.ReferenceIdeal.Value.refOut_second X Y l).symm
  funext i
  rw [eq_ix2 i]
  exact key _ _

end Cert.KernelIdeal.Red

end
-- ==== Proof.Algebraic.lean ====
module

public import proofs.«01_k».proof.Proof.Frames
public import proofs.«01_k».proof.Proof.Equation

@[expose] public section

noncomputable section

/-! Both runs end with the same result. -/

namespace Cert.KernelIdeal.Red

open Idealize.ShloMosaic Idealize.ShloMosaic.TcCoe
open Idealize.SL Idealize.SL.Sem
open Cert.KernelIdeal Cert.KernelIdeal.Gen

/-- The reference ends with its result, its arguments unchanged. -/
theorem run_reference (m' : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ⟩ (fun r => ∀ c : Dev Cert.ReferenceIdeal.nD,
        r.2.mem ((c.tc : Thread Cert.ReferenceIdeal.nD Cert.ReferenceIdeal.τ).loc Cert.ReferenceIdeal.main_v19)
          = Cert.ReferenceIdeal.Value.refOut
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m' ((c.tc : Thread Cert.ReferenceIdeal.nD Cert.ReferenceIdeal.τ).loc Cert.ReferenceIdeal.main_arg2)) :=
  Cert.ReferenceIdeal.Value.run (F := Ideal) m' ρ

/-- From devices that hold their blocks of the reference's arguments, every device of the kernel ends with the
    reference's result. -/
theorem algebraic : Cert.algebraic_KernelIdeal_ReferenceIdeal (hKernelIdeal := Cert.KernelIdeal.Gen.facts)
    (hReferenceIdeal := Cert.ReferenceIdeal.Gen.facts) := by
  intro m g m' g' _ hin
  have hcut : Cut m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    fun c => ⟨(hin c).1, (hin c).2.1⟩
  refine ⟨Cert.ReferenceIdeal.Value.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono (fun r h c => ⟨((h.1 c).1).trans (out_eq hcut), (h.1 c).2⟩)
      (run_main (F := Ideal) m g)
  · exact (θ_run (Cert.ReferenceIdeal.defs (F := Ideal)) _ _).mono (fun r h => h 0) (run_reference m' g')

end Cert.KernelIdeal.Red

end
-- ==== Proof.lean ====
module

public import proofs.«01_k».proof.Defs
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Red.frame_kernel, Cert.KernelIdeal.Red.frame_ideal, Cert.KernelIdeal.Red.frame_reference, trivial,
  Cert.KernelIdeal.Red.algebraic⟩

end Cert.Proof

end
